-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_KernelIdeal_clear [hPre_clear : Cert.Pre_clear.Facts] (m : (ℓ : Loc Cert.KernelIdeal.nD Cert.KernelIdeal.τ Cert.KernelIdeal.sig) → Buf (Elt Ideal) ℓ) : Prop :=
  ∀ c : Dev Cert.KernelIdeal.nD,
    (Cert.Pre_clear.fn (F := Ideal) (m ((c.tc : Thread Cert.KernelIdeal.nD Cert.KernelIdeal.τ).loc Cert.KernelIdeal.main_arg0))).1 = (fun _ => 1#1)
    ∧ (Cert.Pre_clear.fn (F := Ideal) (m ((c.tc : Thread Cert.KernelIdeal.nD Cert.KernelIdeal.τ).loc Cert.KernelIdeal.main_arg0))).2.1 = (fun _ => 1#1)
    ∧ (Cert.Pre_clear.fn (F := Ideal) (m ((c.tc : Thread Cert.KernelIdeal.nD Cert.KernelIdeal.τ).loc Cert.KernelIdeal.main_arg0))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_ReferenceIdeal_generic [hPre_generic : Cert.Pre_generic.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_generic.fn (F := Ideal) (m ((c.tc : Thread Cert.ReferenceIdeal.nD Cert.ReferenceIdeal.τ).loc Cert.ReferenceIdeal.main_arg0))).1 = (fun _ => 1#1)
    ∧ (Cert.Pre_generic.fn (F := Ideal) (m ((c.tc : Thread Cert.ReferenceIdeal.nD Cert.ReferenceIdeal.τ).loc Cert.ReferenceIdeal.main_arg0))).2 = (fun _ => 1#1)

def Pre_Arctan (m : (ℓ : Loc Cert.Arctan.nD Cert.Arctan.τ Cert.Arctan.sig) → Buf (Elt Bits) ℓ) : Prop :=
  True

def Pre_ArctanIdeal (m : (ℓ : Loc Cert.ArctanIdeal.nD Cert.ArctanIdeal.τ Cert.ArctanIdeal.sig) → Buf (Elt Ideal) ℓ) : Prop :=
  True

def Pre_ArctanIdeal_generic [hPre_generic : Cert.Pre_generic.Facts] (m : (ℓ : Loc Cert.ArctanIdeal.nD Cert.ArctanIdeal.τ Cert.ArctanIdeal.sig) → Buf (Elt Ideal) ℓ) : Prop :=
  ∀ c : Dev Cert.ArctanIdeal.nD,
    (Cert.Pre_generic.fn (F := Ideal) (m ((c.tc : Thread Cert.ArctanIdeal.nD Cert.ArctanIdeal.τ).loc Cert.ArctanIdeal.main_arg0))).1 = (fun _ => 1#1)
    ∧ (Cert.Pre_generic.fn (F := Ideal) (m ((c.tc : Thread Cert.ArctanIdeal.nD Cert.ArctanIdeal.τ).loc Cert.ArctanIdeal.main_arg0))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_clear [hKernelIdeal : Cert.KernelIdeal.Facts] [hPre_clear : Cert.Pre_clear.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_clear m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_generic [hReferenceIdeal : Cert.ReferenceIdeal.Facts] [hPre_generic : Cert.Pre_generic.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_generic m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Arctan [hArctan : Cert.Arctan.Facts] : Prop :=
  ∀ (m : (ℓ : Loc Cert.Arctan.nD Cert.Arctan.τ Cert.Arctan.sig) → Buf (Elt Bits) ℓ) (g : Dev Cert.Arctan.nD → PrngReg), Pre_Arctan m →
    θ_run (Cert.Arctan.defs (F := Bits)) (onTc (τ := Cert.Arctan.τ) (Cert.Arctan.main (F := Bits))) ⟨m, fun _ => 0, g⟩ (fun r => (∀ c : Dev Cert.Arctan.nD,
      r.2.mem ((c.tc : Thread Cert.Arctan.nD Cert.Arctan.τ).loc Cert.Arctan.main_arg0) = m ((c.tc : Thread Cert.Arctan.nD Cert.Arctan.τ).loc Cert.Arctan.main_arg0))
      ∧ r.2.sem = fun _ => 0)

def quiescent_ArctanIdeal [hArctanIdeal : Cert.ArctanIdeal.Facts] : Prop :=
  ∀ (m : (ℓ : Loc Cert.ArctanIdeal.nD Cert.ArctanIdeal.τ Cert.ArctanIdeal.sig) → Buf (Elt Ideal) ℓ) (g : Dev Cert.ArctanIdeal.nD → PrngReg), Pre_ArctanIdeal m →
    θ_run (Cert.ArctanIdeal.defs (F := Ideal)) (onTc (τ := Cert.ArctanIdeal.τ) (Cert.ArctanIdeal.main (F := Ideal))) ⟨m, fun _ => 0, g⟩ (fun r => (∀ c : Dev Cert.ArctanIdeal.nD,
      r.2.mem ((c.tc : Thread Cert.ArctanIdeal.nD Cert.ArctanIdeal.τ).loc Cert.ArctanIdeal.main_arg0) = m ((c.tc : Thread Cert.ArctanIdeal.nD Cert.ArctanIdeal.τ).loc Cert.ArctanIdeal.main_arg0))
      ∧ r.2.sem = fun _ => 0)

def quiescent_ArctanIdeal_pre_generic [hArctanIdeal : Cert.ArctanIdeal.Facts] [hPre_generic : Cert.Pre_generic.Facts] : Prop :=
  ∀ (m : (ℓ : Loc Cert.ArctanIdeal.nD Cert.ArctanIdeal.τ Cert.ArctanIdeal.sig) → Buf (Elt Ideal) ℓ) (g : Dev Cert.ArctanIdeal.nD → PrngReg), Pre_ArctanIdeal_generic m →
    θ_run (Cert.ArctanIdeal.defs (F := Ideal)) (onTc (τ := Cert.ArctanIdeal.τ) (Cert.ArctanIdeal.main (F := Ideal))) ⟨m, fun _ => 0, g⟩ (fun r => (∀ c : Dev Cert.ArctanIdeal.nD,
      r.2.mem ((c.tc : Thread Cert.ArctanIdeal.nD Cert.ArctanIdeal.τ).loc Cert.ArctanIdeal.main_arg0) = m ((c.tc : Thread Cert.ArctanIdeal.nD Cert.ArctanIdeal.τ).loc Cert.ArctanIdeal.main_arg0))
      ∧ r.2.sem = fun _ => 0)

def preserves_Kernel_KernelIdeal : Prop :=
  IdealRules.named_const.Statement Cert.KernelIdeal.κ "half_pi" .f32 0x3FC90FDB#32 ((2⁻¹ * Real.pi : ℝ) : EReal)
  ∧ IdealRules.named_const.Statement Cert.KernelIdeal.κ "pi" .f32 0x40490FDB#32 ((Real.pi : ℝ) : EReal)
  ∧ IdealRules.named_const.Statement Cert.KernelIdeal.κ "two_pi" .f32 0x40C90FDB#32 ((2 * Real.pi : ℝ) : EReal)
  ∧ IdealRules.named_const.Statement Cert.KernelIdeal.κ "neg_pi" .f32 0xC0490FDB#32 ((-Real.pi : ℝ) : EReal)

def algebraic_KernelIdeal_ReferenceIdeal_on_signs_pre_finite [hKernelIdeal : Cert.KernelIdeal.Facts] [hReferenceIdeal : Cert.ReferenceIdeal.Facts] [hPre_finite : Cert.Pre_finite.Facts] [hOn_signs : Cert.On_signs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![256, 10, 25, 25]⟩ : Shape).Idx, (Cert.On_signs.fn (F := Ideal) (m ((c.tc : Thread Cert.KernelIdeal.nD Cert.KernelIdeal.τ).loc Cert.KernelIdeal.main_arg0))) i = 1#1 → r.2.mem ((c.tc : Thread Cert.KernelIdeal.nD Cert.KernelIdeal.τ).loc Cert.KernelIdeal.main_v1) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![256, 10, 25, 25]⟩ : Shape).Idx, (Cert.On_signs.fn (F := Ideal) (m ((c.tc : Thread Cert.KernelIdeal.nD Cert.KernelIdeal.τ).loc Cert.KernelIdeal.main_arg0))) i = 1#1 → r.2.mem ((c.tc : Thread Cert.ReferenceIdeal.nD Cert.ReferenceIdeal.τ).loc Cert.ReferenceIdeal.main_v194) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def holds_KernelIdeal_near_pre_clear [hKernelIdeal : Cert.KernelIdeal.Facts] [hPre_clear : Cert.Pre_clear.Facts] [hPost_near : Cert.Post_near.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_clear m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ (Cert.Post_near.fn (F := Ideal) (m ((c.tc : Thread Cert.KernelIdeal.nD Cert.KernelIdeal.τ).loc Cert.KernelIdeal.main_arg0)) (r.2.mem ((c.tc : Thread Cert.KernelIdeal.nD Cert.KernelIdeal.τ).loc Cert.KernelIdeal.main_v1))) = (fun _ => 1#1))

def preserves_Arctan_ArctanIdeal : Prop :=
  IdealRules.named_const.Statement Cert.ArctanIdeal.κ "half_pi" .f32 0x3FC90FDB#32 ((2⁻¹ * Real.pi : ℝ) : EReal)
  ∧ IdealRules.named_const.Statement Cert.ArctanIdeal.κ "pi" .f32 0x40490FDB#32 ((Real.pi : ℝ) : EReal)
  ∧ IdealRules.named_const.Statement Cert.ArctanIdeal.κ "two_pi" .f32 0x40C90FDB#32 ((2 * Real.pi : ℝ) : EReal)
  ∧ IdealRules.named_const.Statement Cert.ArctanIdeal.κ "neg_pi" .f32 0xC0490FDB#32 ((-Real.pi : ℝ) : EReal)

def algebraic_ArctanIdeal_ReferenceIdeal_pre_generic [hArctanIdeal : Cert.ArctanIdeal.Facts] [hReferenceIdeal : Cert.ReferenceIdeal.Facts] [hPre_generic : Cert.Pre_generic.Facts] : Prop :=
  ∀ (m : (ℓ : Loc Cert.ArctanIdeal.nD Cert.ArctanIdeal.τ Cert.ArctanIdeal.sig) → Buf (Elt Ideal) ℓ) (g : Dev Cert.ArctanIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_ArctanIdeal_generic m →
    (∀ c : Dev Cert.ArctanIdeal.nD,
      m' ((c.tc : Thread Cert.ReferenceIdeal.nD Cert.ReferenceIdeal.τ).loc Cert.ReferenceIdeal.main_arg0) = m ((c.tc : Thread Cert.ArctanIdeal.nD Cert.ArctanIdeal.τ).loc Cert.ArctanIdeal.main_arg0)) →
    ∃ (v0 : (c : Dev Cert.ArctanIdeal.nD) → Buf (Elt Ideal) ((c.tc : Thread Cert.ArctanIdeal.nD Cert.ArctanIdeal.τ).loc Cert.ArctanIdeal.main_v1)),
      θ_run (Cert.ArctanIdeal.defs (F := Ideal)) (onTc (τ := Cert.ArctanIdeal.τ) (Cert.ArctanIdeal.main (F := Ideal))) ⟨m, fun _ => 0, g⟩ (fun r => ∀ c : Dev Cert.ArctanIdeal.nD,
          r.2.mem ((c.tc : Thread Cert.ArctanIdeal.nD Cert.ArctanIdeal.τ).loc Cert.ArctanIdeal.main_v1) = v0 c
          ∧ r.2.mem ((c.tc : Thread Cert.ArctanIdeal.nD Cert.ArctanIdeal.τ).loc Cert.ArctanIdeal.main_arg0) = m ((c.tc : Thread Cert.ArctanIdeal.nD Cert.ArctanIdeal.τ).loc Cert.ArctanIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hArctan : Cert.Arctan.Facts) (hArctanIdeal : Cert.ArctanIdeal.Facts) (hPre_finite : Cert.Pre_finite.Facts) (hPre_clear : Cert.Pre_clear.Facts) (hPre_generic : Cert.Pre_generic.Facts) (hPost_near : Cert.Post_near.Facts) (hOn_signs : Cert.On_signs.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_KernelIdeal_pre_clear (hKernelIdeal := hKernelIdeal) (hPre_clear := hPre_clear)
    ∧ quiescent_ReferenceIdeal (hReferenceIdeal := hReferenceIdeal)
    ∧ quiescent_ReferenceIdeal_pre_finite (hReferenceIdeal := hReferenceIdeal) (hPre_finite := hPre_finite)
    ∧ quiescent_ReferenceIdeal_pre_generic (hReferenceIdeal := hReferenceIdeal) (hPre_generic := hPre_generic)
    ∧ quiescent_Arctan (hArctan := hArctan)
    ∧ quiescent_ArctanIdeal (hArctanIdeal := hArctanIdeal)
    ∧ quiescent_ArctanIdeal_pre_generic (hArctanIdeal := hArctanIdeal) (hPre_generic := hPre_generic)
    ∧ preserves_Kernel_KernelIdeal
    ∧ algebraic_KernelIdeal_ReferenceIdeal_on_signs_pre_finite (hKernelIdeal := hKernelIdeal) (hReferenceIdeal := hReferenceIdeal) (hPre_finite := hPre_finite) (hOn_signs := hOn_signs)
    ∧ holds_KernelIdeal_near_pre_clear (hKernelIdeal := hKernelIdeal) (hPre_clear := hPre_clear) (hPost_near := hPost_near)
    ∧ preserves_Arctan_ArctanIdeal
    ∧ algebraic_ArctanIdeal_ReferenceIdeal_pre_generic (hArctanIdeal := hArctanIdeal) (hReferenceIdeal := hReferenceIdeal) (hPre_generic := hPre_generic)
-- ==== On_signs.lean ====
abbrev S256x3x1024x25 : Shape := ⟨4, ![256, 3, 1024, 25]⟩
abbrev S256x10x25x25 : Shape := ⟨4, ![256, 10, 25, 25]⟩
abbrev S_ : Shape := ⟨0, ![]⟩

class Facts : Prop where
  bcast_S_S256x10x25x25 : S_.BroadcastsInDim S256x10x25x25 (![] : Fin 0 → Fin S256x10x25x25.rank)

variable [Facts]

def fn {F : FTy → Type} [FloatOps F] (main_arg0 : FVec F S256x3x1024x25 .f32) : IVec S256x10x25x25 1 :=
  let main_v0 : IVec S256x10x25x25 32 := iotaInDim S256x10x25x25 32 1
  let main_c : IVec S_ 32 := constantI S_ 32 0#32
  let main_v1 : IVec S256x10x25x25 32 := broadcastInDim S256x10x25x25 ![] bcast_S_S256x10x25x25 main_c
  let main_v2 : IVec S256x10x25x25 1 := cmpi .eq main_v0 main_v1
  let main_c_0 : IVec S_ 32 := constantI S_ 32 1#32
  let main_v3 : IVec S256x10x25x25 32 := broadcastInDim S256x10x25x25 ![] bcast_S_S256x10x25x25 main_c_0
  let main_v4 : IVec S256x10x25x25 1 := cmpi .eq main_v0 main_v3
  let main_v5 : IVec S256x10x25x25 1 := ori main_v2 main_v4
  let main_c_1 : IVec S_ 32 := constantI S_ 32 3#32
  let main_v6 : IVec S256x10x25x25 32 := broadcastInDim S256x10x25x25 ![] bcast_S_S256x10x25x25 main_c_1
  let main_v7 : IVec S256x10x25x25 1 := cmpi .eq main_v0 main_v6
  let main_v8 : IVec S256x10x25x25 1 := ori main_v5 main_v7
  let main_c_2 : IVec S_ 32 := constantI S_ 32 6#32
  let main_v9 : IVec S256x10x25x25 32 := broadcastInDim S256x10x25x25 ![] bcast_S_S256x10x25x25 main_c_2
  let main_v10 : IVec S256x10x25x25 1 := cmpi .eq main_v0 main_v9
  let main_v11 : IVec S256x10x25x25 1 := ori main_v8 main_v10
  main_v11
-- ==== Post_near.lean ====
abbrev S256x3x1024x25 : Shape := ⟨4, ![256, 3, 1024, 25]⟩
abbrev S256x10x25x25 : Shape := ⟨4, ![256, 10, 25, 25]⟩
abbrev S256x1x1024x25 : Shape := ⟨4, ![256, 1, 1024, 25]⟩
abbrev S256x1024x25 : Shape := ⟨3, ![256, 1024, 25]⟩
abbrev S_ : Shape := ⟨0, ![]⟩
abbrev S256x10x1024x25 : Shape := ⟨4, ![256, 10, 1024, 25]⟩

class Facts : Prop where
  slices_S256x3x1024x25_S256x1x1024x25_0_0_0_0 : S256x3x1024x25.Slices ![0, 0, 0, 0] S256x1x1024x25
  shapeCasts_S256x1x1024x25_S256x1024x25 : S256x1x1024x25.ShapeCasts S256x1024x25
  slices_S256x3x1024x25_S256x1x1024x25_0_1_0_0 : S256x3x1024x25.Slices ![0, 1, 0, 0] S256x1x1024x25
  bcast_S_S256x1024x25 : S_.BroadcastsInDim S256x1024x25 (![] : Fin 0 → Fin S256x1024x25.rank)
  slices_S256x3x1024x25_S256x1x1024x25_0_2_0_0 : S256x3x1024x25.Slices ![0, 2, 0, 0] S256x1x1024x25
  bcast_S256x1024x25_S256x1x1024x25_0_2_3 : S256x1024x25.BroadcastsInDim S256x1x1024x25 (![0, 2, 3] : Fin 3 → Fin S256x1x1024x25.rank)
  concatenates_S256x1x1024x25_S256x1x1024x25_S256x1x1024x25_S256x1x1024x25_S256x1x1024x25_S256x1x1024x25_S256x1x1024x25_S256x1x1024x25_S256x1x1024x25_S256x1x1024x25_S256x10x1024x25_d1 : Shape.Concatenates [S256x1x1024x25, S256x1x1024x25, S256x1x1024x25, S256x1x1024x25, S256x1x1024x25, S256x1x1024x25, S256x1x1024x25, S256x1x1024x25, S256x1x1024x25, S256x1x1024x25] S256x10x1024x25 1
  bcast_S_S256x10x25x25 : S_.BroadcastsInDim S256x10x25x25 (![] : Fin 0 → Fin S256x10x25x25.rank)
  dot_S256x10x1024x25_S256x10x1024x25_S256x10x25x25_2_2_3_3_01_01_wf : DotDims.WF S256x10x1024x25 S256x10x1024x25 S256x10x25x25 [2] [2] [3] [3] [0, 1] [0, 1]

variable [Facts]

def dot_S256x10x1024x25_S256x10x1024x25_S256x10x25x25_2_2_3_3_01_01 : DotDims S256x10x1024x25 S256x10x1024x25 S256x10x25x25 where
  lhsContracting := [2]
  rhsContracting := [2]
  lhsNonContracting := [3]
  rhsNonContracting := [3]
  lhsBatch := [0, 1]
  rhsBatch := [0, 1]
  wf := dot_S256x10x1024x25_S256x10x1024x25_S256x10x25x25_2_2_3_3_01_01_wf
def fn_clip {F : FTy → Type} [FloatOps F] (arg0 : FVec F S256x1024x25 .f32) (arg1 : FVec F S_ .f32) (arg2 : FVec F S_ .f32) : FVec F S256x1024x25 .f32 :=
  let v0 : FVec F S_ .f32 := id arg1
  let v1 : FVec F S256x1024x25 .f32 := broadcastInDim S256x1024x25 ![] bcast_S_S256x1024x25 v0
  let v2 : FVec F S256x1024x25 .f32 := maximumf v1 arg0
  let v3 : FVec F S_ .f32 := id arg2
  let v4 : FVec F S256x1024x25 .f32 := broadcastInDim S256x1024x25 ![] bcast_S_S256x1024x25 v3
  let v5 : FVec F S256x1024x25 .f32 := minimumf v4 v2
  v5

def fn_part10 {F : FTy → Type} [FloatOps F] (main_arg1 : FVec F S256x10x25x25 .f32) (main_v127 : FVec F S256x1024x25 .f32) (main_v138 : FVec F S256x1024x25 .f32) (main_v149 : FVec F S256x1024x25 .f32) (main_v160 : FVec F S256x1024x25 .f32) (main_v171 : FVec F S256x1024x25 .f32) (main_v182 : FVec F S256x1024x25 .f32) (main_v183 : FVec F S256x1x1024x25 .f32) (main_v184 : FVec F S256x1x1024x25 .f32) (main_v185 : FVec F S256x1x1024x25 .f32) (main_v186 : FVec F S256x1x1024x25 .f32) : IVec S256x10x25x25 1 :=
  let main_v187 : FVec F S256x1x1024x25 .f32 := broadcastInDim S256x1x1024x25 ![0, 2, 3] bcast_S256x1024x25_S256x1x1024x25_0_2_3 main_v127
  let main_v188 : FVec F S256x1x1024x25 .f32 := broadcastInDim S256x1x1024x25 ![0, 2, 3] bcast_S256x1024x25_S256x1x1024x25_0_2_3 main_v138
  let main_v189 : FVec F S256x1x1024x25 .f32 := broadcastInDim S256x1x1024x25 ![0, 2, 3] bcast_S256x1024x25_S256x1x1024x25_0_2_3 main_v149
  let main_v190 : FVec F S256x1x1024x25 .f32 := broadcastInDim S256x1x1024x25 ![0, 2, 3] bcast_S256x1024x25_S256x1x1024x25_0_2_3 main_v160
  let main_v191 : FVec F S256x1x1024x25 .f32 := broadcastInDim S256x1x1024x25 ![0, 2, 3] bcast_S256x1024x25_S256x1x1024x25_0_2_3 main_v171
  let main_v192 : FVec F S256x1x1024x25 .f32 := broadcastInDim S256x1x1024x25 ![0, 2, 3] bcast_S256x1024x25_S256x1x1024x25_0_2_3 main_v182
  let main_v193 : FVec F S256x10x1024x25 .f32 := concatenate S256x10x1024x25 1 [⟨S256x1x1024x25, main_v183⟩, ⟨S256x1x1024x25, main_v184⟩, ⟨S256x1x1024x25, main_v185⟩, ⟨S256x1x1024x25, main_v186⟩, ⟨S256x1x1024x25, main_v187⟩, ⟨S256x1x1024x25, main_v188⟩, ⟨S256x1x1024x25, main_v189⟩, ⟨S256x1x1024x25, main_v190⟩, ⟨S256x1x1024x25, main_v191⟩, ⟨S256x1x1024x25, main_v192⟩] concatenates_S256x1x1024x25_S256x1x1024x25_S256x1x1024x25_S256x1x1024x25_S256x1x1024x25_S256x1x1024x25_S256x1x1024x25_S256x1x1024x25_S256x1x1024x25_S256x1x1024x25_S256x10x1024x25_d1
  let main_v194 : FVec F S256x10x25x25 .f32 := (fun l r => Host.dotGeneral dot_S256x10x1024x25_S256x10x1024x25_S256x10x25x25_2_2_3_3_01_01 none l r) main_v193 main_v193
  let main_v195 : FVec F S256x10x25x25 .f32 := subf main_arg1 main_v194
  let main_v196 : FVec F S256x10x25x25 .f32 := Host.absf main_v195
  let main_cst_52 : FVec F S_ .f32 := constant S_ .f32 0x3C23D70A#32
  let main_v197 : FVec F S256x10x25x25 .f32 := broadcastInDim S256x10x25x25 ![] bcast_S_S256x10x25x25 main_cst_52
  let main_v198 : IVec S256x10x25x25 1 := cmpf .ole main_v196 main_v197
  main_v198

def fn_part9 {F : FTy → Type} [FloatOps F] (main_arg1 : FVec F S256x10x25x25 .f32) (main_v14 : FVec F S256x1024x25 .f32) (main_v72 : FVec F S256x1024x25 .f32) (main_v83 : FVec F S256x1024x25 .f32) (main_v94 : FVec F S256x1024x25 .f32) (main_v105 : FVec F S256x1024x25 .f32) (main_v116 : FVec F S256x1024x25 .f32) (main_v127 : FVec F S256x1024x25 .f32) (main_v138 : FVec F S256x1024x25 .f32) (main_v149 : FVec F S256x1024x25 .f32) (main_v160 : FVec F S256x1024x25 .f32) (main_v162 : FVec F S256x1024x25 .f32) (main_v166 : FVec F S256x1024x25 .f32) : IVec S256x10x25x25 1 :=
  let main_cst_48 : FVec F S_ .f32 := constant S_ .f32 0x40000000#32
  let main_v167 : FVec F S256x1024x25 .f32 := broadcastInDim S256x1024x25 ![] bcast_S_S256x1024x25 main_cst_48
  let main_v168 : FVec F S256x1024x25 .f32 := mulf main_v167 main_v14
  let main_v169 : FVec F S256x1024x25 .f32 := Host.sin main_v168
  let main_v170 : FVec F S256x1024x25 .f32 := mulf main_v162 main_v169
  let main_v171 : FVec F S256x1024x25 .f32 := Host.atan2 main_v170 main_v166
  let main_cst_49 : FVec F S_ .f32 := constant S_ .f32 0x3CE3DC1E#32
  let main_v172 : FVec F S256x1024x25 .f32 := broadcastInDim S256x1024x25 ![] bcast_S_S256x1024x25 main_cst_49
  let main_v173 : FVec F S256x1024x25 .f32 := mulf main_v172 main_v72
  let main_cst_50 : FVec F S_ .f32 := constant S_ .f32 0x40400000#32
  let main_v174 : FVec F S256x1024x25 .f32 := broadcastInDim S256x1024x25 ![] bcast_S_S256x1024x25 main_cst_50
  let main_v175 : FVec F S256x1024x25 .f32 := mulf main_v174 main_v14
  let main_v176 : FVec F S256x1024x25 .f32 := Host.cos main_v175
  let main_v177 : FVec F S256x1024x25 .f32 := mulf main_v173 main_v176
  let main_cst_51 : FVec F S_ .f32 := constant S_ .f32 0x40400000#32
  let main_v178 : FVec F S256x1024x25 .f32 := broadcastInDim S256x1024x25 ![] bcast_S_S256x1024x25 main_cst_51
  let main_v179 : FVec F S256x1024x25 .f32 := mulf main_v178 main_v14
  let main_v180 : FVec F S256x1024x25 .f32 := Host.sin main_v179
  let main_v181 : FVec F S256x1024x25 .f32 := mulf main_v173 main_v180
  let main_v182 : FVec F S256x1024x25 .f32 := Host.atan2 main_v181 main_v177
  let main_v183 : FVec F S256x1x1024x25 .f32 := broadcastInDim S256x1x1024x25 ![0, 2, 3] bcast_S256x1024x25_S256x1x1024x25_0_2_3 main_v83
  let main_v184 : FVec F S256x1x1024x25 .f32 := broadcastInDim S256x1x1024x25 ![0, 2, 3] bcast_S256x1024x25_S256x1x1024x25_0_2_3 main_v94
  let main_v185 : FVec F S256x1x1024x25 .f32 := broadcastInDim S256x1x1024x25 ![0, 2, 3] bcast_S256x1024x25_S256x1x1024x25_0_2_3 main_v105
  let main_v186 : FVec F S256x1x1024x25 .f32 := broadcastInDim S256x1x1024x25 ![0, 2, 3] bcast_S256x1024x25_S256x1x1024x25_0_2_3 main_v116
  fn_part10 (F := F) main_arg1 main_v127 main_v138 main_v149 main_v160 main_v171 main_v182 main_v183 main_v184 main_v185 main_v186

def fn_part8 {F : FTy → Type} [FloatOps F] (main_arg1 : FVec F S256x10x25x25 .f32) (main_v14 : FVec F S256x1024x25 .f32) (main_v62 : FVec F S256x1024x25 .f32) (main_v68 : FVec F S256x1024x25 .f32) (main_v72 : FVec F S256x1024x25 .f32) (main_v83 : FVec F S256x1024x25 .f32) (main_v94 : FVec F S256x1024x25 .f32) (main_v105 : FVec F S256x1024x25 .f32) (main_v116 : FVec F S256x1024x25 .f32) (main_v127 : FVec F S256x1024x25 .f32) (main_v138 : FVec F S256x1024x25 .f32) (main_v140 : FVec F S256x1024x25 .f32) (main_v144 : FVec F S256x1024x25 .f32) (main_v147 : FVec F S256x1024x25 .f32) : IVec S256x10x25x25 1 :=
  let main_v148 : FVec F S256x1024x25 .f32 := mulf main_v140 main_v147
  let main_v149 : FVec F S256x1024x25 .f32 := Host.atan2 main_v148 main_v144
  let main_cst_43 : FVec F S_ .f32 := constant S_ .f32 0x3E5C9FD5#32
  let main_v150 : FVec F S256x1024x25 .f32 := broadcastInDim S256x1024x25 ![] bcast_S_S256x1024x25 main_cst_43
  let main_v151 : FVec F S256x1024x25 .f32 := mulf main_v150 main_v62
  let main_cst_44 : FVec F S_ .f32 := constant S_ .f32 0x3F800000#32
  let main_v152 : FVec F S256x1024x25 .f32 := broadcastInDim S256x1024x25 ![] bcast_S_S256x1024x25 main_cst_44
  let main_v153 : FVec F S256x1024x25 .f32 := mulf main_v152 main_v14
  let main_v154 : FVec F S256x1024x25 .f32 := Host.cos main_v153
  let main_v155 : FVec F S256x1024x25 .f32 := mulf main_v151 main_v154
  let main_cst_45 : FVec F S_ .f32 := constant S_ .f32 0x3F800000#32
  let main_v156 : FVec F S256x1024x25 .f32 := broadcastInDim S256x1024x25 ![] bcast_S_S256x1024x25 main_cst_45
  let main_v157 : FVec F S256x1024x25 .f32 := mulf main_v156 main_v14
  let main_v158 : FVec F S256x1024x25 .f32 := Host.sin main_v157
  let main_v159 : FVec F S256x1024x25 .f32 := mulf main_v151 main_v158
  let main_v160 : FVec F S256x1024x25 .f32 := Host.atan2 main_v159 main_v155
  let main_cst_46 : FVec F S_ .f32 := constant S_ .f32 0x3D8B88FB#32
  let main_v161 : FVec F S256x1024x25 .f32 := broadcastInDim S256x1024x25 ![] bcast_S_S256x1024x25 main_cst_46
  let main_v162 : FVec F S256x1024x25 .f32 := mulf main_v161 main_v68
  let main_cst_47 : FVec F S_ .f32 := constant S_ .f32 0x40000000#32
  let main_v163 : FVec F S256x1024x25 .f32 := broadcastInDim S256x1024x25 ![] bcast_S_S256x1024x25 main_cst_47
  let main_v164 : FVec F S256x1024x25 .f32 := mulf main_v163 main_v14
  let main_v165 : FVec F S256x1024x25 .f32 := Host.cos main_v164
  let main_v166 : FVec F S256x1024x25 .f32 := mulf main_v162 main_v165
  fn_part9 (F := F) main_arg1 main_v14 main_v72 main_v83 main_v94 main_v105 main_v116 main_v127 main_v138 main_v149 main_v160 main_v162 main_v166

def fn_part7 {F : FTy → Type} [FloatOps F] (main_arg1 : FVec F S256x10x25x25 .f32) (main_v14 : FVec F S256x1024x25 .f32) (main_v46 : FVec F S256x1024x25 .f32) (main_v54 : FVec F S256x1024x25 .f32) (main_v62 : FVec F S256x1024x25 .f32) (main_v68 : FVec F S256x1024x25 .f32) (main_v72 : FVec F S256x1024x25 .f32) (main_v83 : FVec F S256x1024x25 .f32) (main_v94 : FVec F S256x1024x25 .f32) (main_v105 : FVec F S256x1024x25 .f32) (main_v116 : FVec F S256x1024x25 .f32) (main_v127 : FVec F S256x1024x25 .f32) (main_v128 : FVec F S256x1024x25 .f32) : IVec S256x10x25x25 1 :=
  let main_v129 : FVec F S256x1024x25 .f32 := mulf main_v128 main_v46
  let main_cst_38 : FVec F S_ .f32 := constant S_ .f32 0x40000000#32
  let main_v130 : FVec F S256x1024x25 .f32 := broadcastInDim S256x1024x25 ![] bcast_S_S256x1024x25 main_cst_38
  let main_v131 : FVec F S256x1024x25 .f32 := mulf main_v130 main_v14
  let main_v132 : FVec F S256x1024x25 .f32 := Host.cos main_v131
  let main_v133 : FVec F S256x1024x25 .f32 := mulf main_v129 main_v132
  let main_cst_39 : FVec F S_ .f32 := constant S_ .f32 0x40000000#32
  let main_v134 : FVec F S256x1024x25 .f32 := broadcastInDim S256x1024x25 ![] bcast_S_S256x1024x25 main_cst_39
  let main_v135 : FVec F S256x1024x25 .f32 := mulf main_v134 main_v14
  let main_v136 : FVec F S256x1024x25 .f32 := Host.sin main_v135
  let main_v137 : FVec F S256x1024x25 .f32 := mulf main_v129 main_v136
  let main_v138 : FVec F S256x1024x25 .f32 := Host.atan2 main_v137 main_v133
  let main_cst_40 : FVec F S_ .f32 := constant S_ .f32 0x3F3F10F8#32
  let main_v139 : FVec F S256x1024x25 .f32 := broadcastInDim S256x1024x25 ![] bcast_S_S256x1024x25 main_cst_40
  let main_v140 : FVec F S256x1024x25 .f32 := mulf main_v139 main_v54
  let main_cst_41 : FVec F S_ .f32 := constant S_ .f32 0x00000000#32
  let main_v141 : FVec F S256x1024x25 .f32 := broadcastInDim S256x1024x25 ![] bcast_S_S256x1024x25 main_cst_41
  let main_v142 : FVec F S256x1024x25 .f32 := mulf main_v141 main_v14
  let main_v143 : FVec F S256x1024x25 .f32 := Host.cos main_v142
  let main_v144 : FVec F S256x1024x25 .f32 := mulf main_v140 main_v143
  let main_cst_42 : FVec F S_ .f32 := constant S_ .f32 0x00000000#32
  let main_v145 : FVec F S256x1024x25 .f32 := broadcastInDim S256x1024x25 ![] bcast_S_S256x1024x25 main_cst_42
  let main_v146 : FVec F S256x1024x25 .f32 := mulf main_v145 main_v14
  let main_v147 : FVec F S256x1024x25 .f32 := Host.sin main_v146
  fn_part8 (F := F) main_arg1 main_v14 main_v62 main_v68 main_v72 main_v83 main_v94 main_v105 main_v116 main_v127 main_v138 main_v140 main_v144 main_v147

def fn_part6 {F : FTy → Type} [FloatOps F] (main_arg1 : FVec F S256x10x25x25 .f32) (main_v14 : FVec F S256x1024x25 .f32) (main_v41 : FVec F S256x1024x25 .f32) (main_v46 : FVec F S256x1024x25 .f32) (main_v54 : FVec F S256x1024x25 .f32) (main_v62 : FVec F S256x1024x25 .f32) (main_v68 : FVec F S256x1024x25 .f32) (main_v72 : FVec F S256x1024x25 .f32) (main_v83 : FVec F S256x1024x25 .f32) (main_v94 : FVec F S256x1024x25 .f32) (main_v105 : FVec F S256x1024x25 .f32) (main_v107 : FVec F S256x1024x25 .f32) (main_v109 : FVec F S256x1024x25 .f32) : IVec S256x10x25x25 1 :=
  let main_v110 : FVec F S256x1024x25 .f32 := Host.cos main_v109
  let main_v111 : FVec F S256x1024x25 .f32 := mulf main_v107 main_v110
  let main_cst_33 : FVec F S_ .f32 := constant S_ .f32 0x00000000#32
  let main_v112 : FVec F S256x1024x25 .f32 := broadcastInDim S256x1024x25 ![] bcast_S_S256x1024x25 main_cst_33
  let main_v113 : FVec F S256x1024x25 .f32 := mulf main_v112 main_v14
  let main_v114 : FVec F S256x1024x25 .f32 := Host.sin main_v113
  let main_v115 : FVec F S256x1024x25 .f32 := mulf main_v107 main_v114
  let main_v116 : FVec F S256x1024x25 .f32 := Host.atan2 main_v115 main_v111
  let main_cst_34 : FVec F S_ .f32 := constant S_ .f32 0x3E83D928#32
  let main_v117 : FVec F S256x1024x25 .f32 := broadcastInDim S256x1024x25 ![] bcast_S_S256x1024x25 main_cst_34
  let main_v118 : FVec F S256x1024x25 .f32 := mulf main_v117 main_v41
  let main_cst_35 : FVec F S_ .f32 := constant S_ .f32 0x3F800000#32
  let main_v119 : FVec F S256x1024x25 .f32 := broadcastInDim S256x1024x25 ![] bcast_S_S256x1024x25 main_cst_35
  let main_v120 : FVec F S256x1024x25 .f32 := mulf main_v119 main_v14
  let main_v121 : FVec F S256x1024x25 .f32 := Host.cos main_v120
  let main_v122 : FVec F S256x1024x25 .f32 := mulf main_v118 main_v121
  let main_cst_36 : FVec F S_ .f32 := constant S_ .f32 0x3F800000#32
  let main_v123 : FVec F S256x1024x25 .f32 := broadcastInDim S256x1024x25 ![] bcast_S_S256x1024x25 main_cst_36
  let main_v124 : FVec F S256x1024x25 .f32 := mulf main_v123 main_v14
  let main_v125 : FVec F S256x1024x25 .f32 := Host.sin main_v124
  let main_v126 : FVec F S256x1024x25 .f32 := mulf main_v118 main_v125
  let main_v127 : FVec F S256x1024x25 .f32 := Host.atan2 main_v126 main_v122
  let main_cst_37 : FVec F S_ .f32 := constant S_ .f32 0x3E03D928#32
  let main_v128 : FVec F S256x1024x25 .f32 := broadcastInDim S256x1024x25 ![] bcast_S_S256x1024x25 main_cst_37
  fn_part7 (F := F) main_arg1 main_v14 main_v46 main_v54 main_v62 main_v68 main_v72 main_v83 main_v94 main_v105 main_v116 main_v127 main_v128

def fn_part5 {F : FTy → Type} [FloatOps F] (main_arg1 : FVec F S256x10x25x25 .f32) (main_v14 : FVec F S256x1024x25 .f32) (main_v31 : FVec F S256x1024x25 .f32) (main_v38 : FVec F S256x1024x25 .f32) (main_v41 : FVec F S256x1024x25 .f32) (main_v46 : FVec F S256x1024x25 .f32) (main_v54 : FVec F S256x1024x25 .f32) (main_v62 : FVec F S256x1024x25 .f32) (main_v68 : FVec F S256x1024x25 .f32) (main_v72 : FVec F S256x1024x25 .f32) (main_v83 : FVec F S256x1024x25 .f32) (main_v85 : FVec F S256x1024x25 .f32) (main_v89 : FVec F S256x1024x25 .f32) (main_v90 : FVec F S256x1024x25 .f32) : IVec S256x10x25x25 1 :=
  let main_v91 : FVec F S256x1024x25 .f32 := mulf main_v90 main_v14
  let main_v92 : FVec F S256x1024x25 .f32 := Host.sin main_v91
  let main_v93 : FVec F S256x1024x25 .f32 := mulf main_v85 main_v92
  let main_v94 : FVec F S256x1024x25 .f32 := Host.atan2 main_v93 main_v89
  let main_cst_28 : FVec F S_ .f32 := constant S_ .f32 0x3EB0E49C#32
  let main_v95 : FVec F S256x1024x25 .f32 := broadcastInDim S256x1024x25 ![] bcast_S_S256x1024x25 main_cst_28
  let main_v96 : FVec F S256x1024x25 .f32 := mulf main_v95 main_v31
  let main_cst_29 : FVec F S_ .f32 := constant S_ .f32 0x3F800000#32
  let main_v97 : FVec F S256x1024x25 .f32 := broadcastInDim S256x1024x25 ![] bcast_S_S256x1024x25 main_cst_29
  let main_v98 : FVec F S256x1024x25 .f32 := mulf main_v97 main_v14
  let main_v99 : FVec F S256x1024x25 .f32 := Host.cos main_v98
  let main_v100 : FVec F S256x1024x25 .f32 := mulf main_v96 main_v99
  let main_cst_30 : FVec F S_ .f32 := constant S_ .f32 0x3F800000#32
  let main_v101 : FVec F S256x1024x25 .f32 := broadcastInDim S256x1024x25 ![] bcast_S_S256x1024x25 main_cst_30
  let main_v102 : FVec F S256x1024x25 .f32 := mulf main_v101 main_v14
  let main_v103 : FVec F S256x1024x25 .f32 := Host.sin main_v102
  let main_v104 : FVec F S256x1024x25 .f32 := mulf main_v96 main_v103
  let main_v105 : FVec F S256x1024x25 .f32 := Host.atan2 main_v104 main_v100
  let main_cst_31 : FVec F S_ .f32 := constant S_ .f32 0x3F217B01#32
  let main_v106 : FVec F S256x1024x25 .f32 := broadcastInDim S256x1024x25 ![] bcast_S_S256x1024x25 main_cst_31
  let main_v107 : FVec F S256x1024x25 .f32 := mulf main_v106 main_v38
  let main_cst_32 : FVec F S_ .f32 := constant S_ .f32 0x00000000#32
  let main_v108 : FVec F S256x1024x25 .f32 := broadcastInDim S256x1024x25 ![] bcast_S_S256x1024x25 main_cst_32
  let main_v109 : FVec F S256x1024x25 .f32 := mulf main_v108 main_v14
  fn_part6 (F := F) main_arg1 main_v14 main_v41 main_v46 main_v54 main_v62 main_v68 main_v72 main_v83 main_v94 main_v105 main_v107 main_v109

def fn_part4 {F : FTy → Type} [FloatOps F] (main_arg1 : FVec F S256x10x25x25 .f32) (main_v14 : FVec F S256x1024x25 .f32) (main_v24 : FVec F S256x1024x25 .f32) (main_v30 : FVec F S256x1024x25 .f32) (main_v31 : FVec F S256x1024x25 .f32) (main_v38 : FVec F S256x1024x25 .f32) (main_v41 : FVec F S256x1024x25 .f32) (main_v46 : FVec F S256x1024x25 .f32) (main_v54 : FVec F S256x1024x25 .f32) (main_v62 : FVec F S256x1024x25 .f32) (main_v68 : FVec F S256x1024x25 .f32) (main_v72 : FVec F S256x1024x25 .f32) : IVec S256x10x25x25 1 :=
  let main_cst_22 : FVec F S_ .f32 := constant S_ .f32 0x3E906EBB#32
  let main_v73 : FVec F S256x1024x25 .f32 := broadcastInDim S256x1024x25 ![] bcast_S_S256x1024x25 main_cst_22
  let main_v74 : FVec F S256x1024x25 .f32 := mulf main_v73 main_v30
  let main_cst_23 : FVec F S_ .f32 := constant S_ .f32 0x00000000#32
  let main_v75 : FVec F S256x1024x25 .f32 := broadcastInDim S256x1024x25 ![] bcast_S_S256x1024x25 main_cst_23
  let main_v76 : FVec F S256x1024x25 .f32 := mulf main_v75 main_v14
  let main_v77 : FVec F S256x1024x25 .f32 := Host.cos main_v76
  let main_v78 : FVec F S256x1024x25 .f32 := mulf main_v74 main_v77
  let main_cst_24 : FVec F S_ .f32 := constant S_ .f32 0x00000000#32
  let main_v79 : FVec F S256x1024x25 .f32 := broadcastInDim S256x1024x25 ![] bcast_S_S256x1024x25 main_cst_24
  let main_v80 : FVec F S256x1024x25 .f32 := mulf main_v79 main_v14
  let main_v81 : FVec F S256x1024x25 .f32 := Host.sin main_v80
  let main_v82 : FVec F S256x1024x25 .f32 := mulf main_v74 main_v81
  let main_v83 : FVec F S256x1024x25 .f32 := Host.atan2 main_v82 main_v78
  let main_cst_25 : FVec F S_ .f32 := constant S_ .f32 0x3EFA2A1C#32
  let main_v84 : FVec F S256x1024x25 .f32 := broadcastInDim S256x1024x25 ![] bcast_S_S256x1024x25 main_cst_25
  let main_v85 : FVec F S256x1024x25 .f32 := mulf main_v84 main_v24
  let main_cst_26 : FVec F S_ .f32 := constant S_ .f32 0x00000000#32
  let main_v86 : FVec F S256x1024x25 .f32 := broadcastInDim S256x1024x25 ![] bcast_S_S256x1024x25 main_cst_26
  let main_v87 : FVec F S256x1024x25 .f32 := mulf main_v86 main_v14
  let main_v88 : FVec F S256x1024x25 .f32 := Host.cos main_v87
  let main_v89 : FVec F S256x1024x25 .f32 := mulf main_v85 main_v88
  let main_cst_27 : FVec F S_ .f32 := constant S_ .f32 0x00000000#32
  let main_v90 : FVec F S256x1024x25 .f32 := broadcastInDim S256x1024x25 ![] bcast_S_S256x1024x25 main_cst_27
  fn_part5 (F := F) main_arg1 main_v14 main_v31 main_v38 main_v41 main_v46 main_v54 main_v62 main_v68 main_v72 main_v83 main_v85 main_v89 main_v90

def fn_part3 {F : FTy → Type} [FloatOps F] (main_arg1 : FVec F S256x10x25x25 .f32) (main_v14 : FVec F S256x1024x25 .f32) (main_v24 : FVec F S256x1024x25 .f32) (main_v29 : FVec F S256x1024x25 .f32) (main_v30 : FVec F S256x1024x25 .f32) (main_v31 : FVec F S256x1024x25 .f32) (main_v38 : FVec F S256x1024x25 .f32) (main_v41 : FVec F S256x1024x25 .f32) (main_v46 : FVec F S256x1024x25 .f32) (main_v54 : FVec F S256x1024x25 .f32) : IVec S256x10x25x25 1 :=
  let main_cst_16 : FVec F S_ .f32 := constant S_ .f32 0x40A00000#32
  let main_v55 : FVec F S256x1024x25 .f32 := broadcastInDim S256x1024x25 ![] bcast_S_S256x1024x25 main_cst_16
  let main_v56 : FVec F S256x1024x25 .f32 := mulf main_v55 main_v24
  let main_v57 : FVec F S256x1024x25 .f32 := mulf main_v56 main_v24
  let main_cst_17 : FVec F S_ .f32 := constant S_ .f32 0x3F800000#32
  let main_v58 : FVec F S256x1024x25 .f32 := broadcastInDim S256x1024x25 ![] bcast_S_S256x1024x25 main_cst_17
  let main_v59 : FVec F S256x1024x25 .f32 := subf main_v57 main_v58
  let main_cst_18 : FVec F S_ .f32 := constant S_ .f32 0xBFC00000#32
  let main_v60 : FVec F S256x1024x25 .f32 := broadcastInDim S256x1024x25 ![] bcast_S_S256x1024x25 main_cst_18
  let main_v61 : FVec F S256x1024x25 .f32 := mulf main_v60 main_v59
  let main_v62 : FVec F S256x1024x25 .f32 := mulf main_v61 main_v29
  let main_cst_19 : FVec F S_ .f32 := constant S_ .f32 0x41700000#32
  let main_v63 : FVec F S256x1024x25 .f32 := broadcastInDim S256x1024x25 ![] bcast_S_S256x1024x25 main_cst_19
  let main_v64 : FVec F S256x1024x25 .f32 := mulf main_v63 main_v24
  let main_v65 : FVec F S256x1024x25 .f32 := mulf main_v24 main_v24
  let main_cst_20 : FVec F S_ .f32 := constant S_ .f32 0x3F800000#32
  let main_v66 : FVec F S256x1024x25 .f32 := broadcastInDim S256x1024x25 ![] bcast_S_S256x1024x25 main_cst_20
  let main_v67 : FVec F S256x1024x25 .f32 := subf main_v66 main_v65
  let main_v68 : FVec F S256x1024x25 .f32 := mulf main_v64 main_v67
  let main_cst_21 : FVec F S_ .f32 := constant S_ .f32 0xC1700000#32
  let main_v69 : FVec F S256x1024x25 .f32 := broadcastInDim S256x1024x25 ![] bcast_S_S256x1024x25 main_cst_21
  let main_v70 : FVec F S256x1024x25 .f32 := mulf main_v69 main_v29
  let main_v71 : FVec F S256x1024x25 .f32 := mulf main_v70 main_v29
  let main_v72 : FVec F S256x1024x25 .f32 := mulf main_v71 main_v29
  fn_part4 (F := F) main_arg1 main_v14 main_v24 main_v30 main_v31 main_v38 main_v41 main_v46 main_v54 main_v62 main_v68 main_v72

def fn_part2 {F : FTy → Type} [FloatOps F] (main_arg1 : FVec F S256x10x25x25 .f32) (main_v14 : FVec F S256x1024x25 .f32) (main_v24 : FVec F S256x1024x25 .f32) (main_v29 : FVec F S256x1024x25 .f32) (main_v30 : FVec F S256x1024x25 .f32) (main_v31 : FVec F S256x1024x25 .f32) (main_v36 : FVec F S256x1024x25 .f32) (main_cst_9 : FVec F S_ .f32) : IVec S256x10x25x25 1 :=
  let main_v37 : FVec F S256x1024x25 .f32 := broadcastInDim S256x1024x25 ![] bcast_S_S256x1024x25 main_cst_9
  let main_v38 : FVec F S256x1024x25 .f32 := mulf main_v37 main_v36
  let main_cst_10 : FVec F S_ .f32 := constant S_ .f32 0xC0400000#32
  let main_v39 : FVec F S256x1024x25 .f32 := broadcastInDim S256x1024x25 ![] bcast_S_S256x1024x25 main_cst_10
  let main_v40 : FVec F S256x1024x25 .f32 := mulf main_v39 main_v24
  let main_v41 : FVec F S256x1024x25 .f32 := mulf main_v40 main_v29
  let main_v42 : FVec F S256x1024x25 .f32 := mulf main_v24 main_v24
  let main_cst_11 : FVec F S_ .f32 := constant S_ .f32 0x3F800000#32
  let main_v43 : FVec F S256x1024x25 .f32 := broadcastInDim S256x1024x25 ![] bcast_S_S256x1024x25 main_cst_11
  let main_v44 : FVec F S256x1024x25 .f32 := subf main_v43 main_v42
  let main_cst_12 : FVec F S_ .f32 := constant S_ .f32 0x40400000#32
  let main_v45 : FVec F S256x1024x25 .f32 := broadcastInDim S256x1024x25 ![] bcast_S_S256x1024x25 main_cst_12
  let main_v46 : FVec F S256x1024x25 .f32 := mulf main_v45 main_v44
  let main_cst_13 : FVec F S_ .f32 := constant S_ .f32 0x3F000000#32
  let main_v47 : FVec F S256x1024x25 .f32 := broadcastInDim S256x1024x25 ![] bcast_S_S256x1024x25 main_cst_13
  let main_v48 : FVec F S256x1024x25 .f32 := mulf main_v47 main_v24
  let main_cst_14 : FVec F S_ .f32 := constant S_ .f32 0x40A00000#32
  let main_v49 : FVec F S256x1024x25 .f32 := broadcastInDim S256x1024x25 ![] bcast_S_S256x1024x25 main_cst_14
  let main_v50 : FVec F S256x1024x25 .f32 := mulf main_v49 main_v24
  let main_v51 : FVec F S256x1024x25 .f32 := mulf main_v50 main_v24
  let main_cst_15 : FVec F S_ .f32 := constant S_ .f32 0x40400000#32
  let main_v52 : FVec F S256x1024x25 .f32 := broadcastInDim S256x1024x25 ![] bcast_S_S256x1024x25 main_cst_15
  let main_v53 : FVec F S256x1024x25 .f32 := subf main_v51 main_v52
  let main_v54 : FVec F S256x1024x25 .f32 := mulf main_v48 main_v53
  fn_part3 (F := F) main_arg1 main_v14 main_v24 main_v29 main_v30 main_v31 main_v38 main_v41 main_v46 main_v54

def fn_part1 {F : FTy → Type} [FloatOps F] (main_arg1 : FVec F S256x10x25x25 .f32) (main_v14 : FVec F S256x1024x25 .f32) (main_v18 : FVec F S256x1024x25 .f32) (main_v20 : FVec F S256x1024x25 .f32) : IVec S256x10x25x25 1 :=
  let main_cst_2 : FVec F S_ .f32 := constant S_ .f32 0x3727C5AC#32
  let main_v21 : FVec F S256x1024x25 .f32 := broadcastInDim S256x1024x25 ![] bcast_S_S256x1024x25 main_cst_2
  let main_v22 : FVec F S256x1024x25 .f32 := addf main_v20 main_v21
  let main_v23 : FVec F S256x1024x25 .f32 := Host.atan2 main_v18 main_v22
  let main_v24 : FVec F S256x1024x25 .f32 := Host.cos main_v23
  let main_v25 : FVec F S256x1024x25 .f32 := mulf main_v24 main_v24
  let main_cst_3 : FVec F S_ .f32 := constant S_ .f32 0x3F800000#32
  let main_v26 : FVec F S256x1024x25 .f32 := broadcastInDim S256x1024x25 ![] bcast_S_S256x1024x25 main_cst_3
  let main_v27 : FVec F S256x1024x25 .f32 := subf main_v26 main_v25
  let main_cst_4 : FVec F S_ .f32 := constant S_ .f32 0x2B8CBCCC#32
  let main_cst_5 : FVec F S_ .f32 := constant S_ .f32 0x3F800000#32
  let main_v28 : FVec F S256x1024x25 .f32 := fn_clip (F := F) main_v27 main_cst_4 main_cst_5
  let main_v29 : FVec F S256x1024x25 .f32 := Host.sqrt main_v28
  let main_cst_6 : FVec F S_ .f32 := constant S_ .f32 0x3F800000#32
  let main_v30 : FVec F S256x1024x25 .f32 := broadcastInDim S256x1024x25 ![] bcast_S_S256x1024x25 main_cst_6
  let main_v31 : FVec F S256x1024x25 .f32 := Host.negf main_v29
  let main_cst_7 : FVec F S_ .f32 := constant S_ .f32 0x40400000#32
  let main_v32 : FVec F S256x1024x25 .f32 := broadcastInDim S256x1024x25 ![] bcast_S_S256x1024x25 main_cst_7
  let main_v33 : FVec F S256x1024x25 .f32 := mulf main_v32 main_v24
  let main_v34 : FVec F S256x1024x25 .f32 := mulf main_v33 main_v24
  let main_cst_8 : FVec F S_ .f32 := constant S_ .f32 0x3F800000#32
  let main_v35 : FVec F S256x1024x25 .f32 := broadcastInDim S256x1024x25 ![] bcast_S_S256x1024x25 main_cst_8
  let main_v36 : FVec F S256x1024x25 .f32 := subf main_v34 main_v35
  let main_cst_9 : FVec F S_ .f32 := constant S_ .f32 0x3F000000#32
  fn_part2 (F := F) main_arg1 main_v14 main_v24 main_v29 main_v30 main_v31 main_v36 main_cst_9

def fn {F : FTy → Type} [FloatOps F] (main_arg0 : FVec F S256x3x1024x25 .f32) (main_arg1 : FVec F S256x10x25x25 .f32) : IVec S256x10x25x25 1 :=
  let main_v0 : FVec F S256x1x1024x25 .f32 := (extractStridedSlice S256x1x1024x25 ![0, 0, 0, 0] · slices_S256x3x1024x25_S256x1x1024x25_0_0_0_0) main_arg0
  let main_v1 : FVec F S256x1024x25 .f32 := shapeCast S256x1024x25 main_v0 shapeCasts_S256x1x1024x25_S256x1024x25
  let main_v2 : FVec F S256x1024x25 .f32 := mulf main_v1 main_v1
  let main_v3 : FVec F S256x1x1024x25 .f32 := (extractStridedSlice S256x1x1024x25 ![0, 1, 0, 0] · slices_S256x3x1024x25_S256x1x1024x25_0_1_0_0) main_arg0
  let main_v4 : FVec F S256x1024x25 .f32 := shapeCast S256x1024x25 main_v3 shapeCasts_S256x1x1024x25_S256x1024x25
  let main_v5 : FVec F S256x1024x25 .f32 := mulf main_v4 main_v4
  let main_v6 : FVec F S256x1024x25 .f32 := addf main_v2 main_v5
  let main_v7 : FVec F S256x1024x25 .f32 := Host.sqrt main_v6
  let main_cst : FVec F S_ .f32 := constant S_ .f32 0x3727C5AC#32
  let main_v8 : FVec F S256x1024x25 .f32 := broadcastInDim S256x1024x25 ![] bcast_S_S256x1024x25 main_cst
  let main_v9 : FVec F S256x1024x25 .f32 := addf main_v7 main_v8
  let main_v10 : FVec F S256x1x1024x25 .f32 := (extractStridedSlice S256x1x1024x25 ![0, 2, 0, 0] · slices_S256x3x1024x25_S256x1x1024x25_0_2_0_0) main_arg0
  let main_v11 : FVec F S256x1024x25 .f32 := shapeCast S256x1024x25 main_v10 shapeCasts_S256x1x1024x25_S256x1024x25
  let main_cst_0 : FVec F S_ .f32 := constant S_ .f32 0x3727C5AC#32
  let main_v12 : FVec F S256x1024x25 .f32 := broadcastInDim S256x1024x25 ![] bcast_S_S256x1024x25 main_cst_0
  let main_v13 : FVec F S256x1024x25 .f32 := addf main_v11 main_v12
  let main_v14 : FVec F S256x1024x25 .f32 := Host.atan2 main_v9 main_v13
  let main_v15 : FVec F S256x1x1024x25 .f32 := (extractStridedSlice S256x1x1024x25 ![0, 1, 0, 0] · slices_S256x3x1024x25_S256x1x1024x25_0_1_0_0) main_arg0
  let main_v16 : FVec F S256x1024x25 .f32 := shapeCast S256x1024x25 main_v15 shapeCasts_S256x1x1024x25_S256x1024x25
  let main_cst_1 : FVec F S_ .f32 := constant S_ .f32 0x3727C5AC#32
  let main_v17 : FVec F S256x1024x25 .f32 := broadcastInDim S256x1024x25 ![] bcast_S_S256x1024x25 main_cst_1
  let main_v18 : FVec F S256x1024x25 .f32 := addf main_v16 main_v17
  let main_v19 : FVec F S256x1x1024x25 .f32 := (extractStridedSlice S256x1x1024x25 ![0, 0, 0, 0] · slices_S256x3x1024x25_S256x1x1024x25_0_0_0_0) main_arg0
  let main_v20 : FVec F S256x1024x25 .f32 := shapeCast S256x1024x25 main_v19 shapeCasts_S256x1x1024x25_S256x1024x25
  fn_part1 (F := F) main_arg1 main_v14 main_v18 main_v20
-- ==== Pre_clear.lean ====
abbrev S256x3x1024x25 : Shape := ⟨4, ![256, 3, 1024, 25]⟩
abbrev S256x1x1024x25 : Shape := ⟨4, ![256, 1, 1024, 25]⟩
abbrev S_ : Shape := ⟨0, ![]⟩

class Facts : Prop where
  slices_S256x3x1024x25_S256x1x1024x25_0_0_0_0 : S256x3x1024x25.Slices ![0, 0, 0, 0] S256x1x1024x25
  slices_S256x3x1024x25_S256x1x1024x25_0_1_0_0 : S256x3x1024x25.Slices ![0, 1, 0, 0] S256x1x1024x25
  slices_S256x3x1024x25_S256x1x1024x25_0_2_0_0 : S256x3x1024x25.Slices ![0, 2, 0, 0] S256x1x1024x25
  bcast_S_S256x1x1024x25 : S_.BroadcastsInDim S256x1x1024x25 (![] : Fin 0 → Fin S256x1x1024x25.rank)
  bcast_S_S256x3x1024x25 : S_.BroadcastsInDim S256x3x1024x25 (![] : Fin 0 → Fin S256x3x1024x25.rank)

variable [Facts]

def fn_part2 {F : FTy → Type} [FloatOps F] (main_v8 : FVec F S256x1x1024x25 .f32) (main_v14 : FVec F S256x1x1024x25 .f32) (main_v17 : IVec S256x3x1024x25 1) (main_v37 : IVec S256x1x1024x25 1) : IVec S256x3x1024x25 1 × IVec S256x1x1024x25 1 × IVec S256x1x1024x25 1 :=
  let main_cst_9 : FVec F S_ .f32 := constant S_ .f32 0x00000000#32
  let main_v38 : FVec F S256x1x1024x25 .f32 := broadcastInDim S256x1x1024x25 ![] bcast_S_S256x1x1024x25 main_cst_9
  let main_v39 : IVec S256x1x1024x25 1 := cmpf .olt main_v8 main_v38
  let main_v40 : FVec F S256x1x1024x25 .f32 := mulf main_v14 main_v14
  let main_v41 : FVec F S256x1x1024x25 .f32 := mulf main_v8 main_v8
  let main_cst_10 : FVec F S_ .f32 := constant S_ .f32 0x40400000#32
  let main_v42 : FVec F S256x1x1024x25 .f32 := broadcastInDim S256x1x1024x25 ![] bcast_S_S256x1x1024x25 main_cst_10
  let main_v43 : FVec F S256x1x1024x25 .f32 := mulf main_v42 main_v41
  let main_v44 : FVec F S256x1x1024x25 .f32 := subf main_v40 main_v43
  let main_v45 : FVec F S256x1x1024x25 .f32 := Host.absf main_v44
  let main_v46 : FVec F S256x1x1024x25 .f32 := mulf main_v14 main_v14
  let main_v47 : FVec F S256x1x1024x25 .f32 := mulf main_v8 main_v8
  let main_v48 : FVec F S256x1x1024x25 .f32 := addf main_v46 main_v47
  let main_cst_11 : FVec F S_ .f32 := constant S_ .f32 0x3649539C#32
  let main_v49 : FVec F S256x1x1024x25 .f32 := broadcastInDim S256x1x1024x25 ![] bcast_S_S256x1x1024x25 main_cst_11
  let main_v50 : FVec F S256x1x1024x25 .f32 := mulf main_v49 main_v48
  let main_v51 : IVec S256x1x1024x25 1 := cmpf .ogt main_v45 main_v50
  let main_v52 : IVec S256x1x1024x25 1 := ori main_v39 main_v51
  (main_v17, main_v37, main_v52)

def fn_part1 {F : FTy → Type} [FloatOps F] (main_v4 : FVec F S256x1x1024x25 .f32) (main_v6 : FVec F S256x1x1024x25 .f32) (main_v8 : FVec F S256x1x1024x25 .f32) (main_v14 : FVec F S256x1x1024x25 .f32) (main_v17 : IVec S256x3x1024x25 1) (main_cst_4 : FVec F S_ .f32) : IVec S256x3x1024x25 1 × IVec S256x1x1024x25 1 × IVec S256x1x1024x25 1 :=
  let main_v18 : FVec F S256x1x1024x25 .f32 := broadcastInDim S256x1x1024x25 ![] bcast_S_S256x1x1024x25 main_cst_4
  let main_v19 : IVec S256x1x1024x25 1 := cmpf .une main_v4 main_v18
  let main_cst_5 : FVec F S_ .f32 := constant S_ .f32 0x00000000#32
  let main_v20 : FVec F S256x1x1024x25 .f32 := broadcastInDim S256x1x1024x25 ![] bcast_S_S256x1x1024x25 main_cst_5
  let main_v21 : IVec S256x1x1024x25 1 := cmpf .une main_v6 main_v20
  let main_v22 : IVec S256x1x1024x25 1 := andi main_v19 main_v21
  let main_v23 : FVec F S256x1x1024x25 .f32 := mulf main_v4 main_v4
  let main_cst_6 : FVec F S_ .f32 := constant S_ .f32 0x40800000#32
  let main_v24 : FVec F S256x1x1024x25 .f32 := broadcastInDim S256x1x1024x25 ![] bcast_S_S256x1x1024x25 main_cst_6
  let main_v25 : FVec F S256x1x1024x25 .f32 := mulf main_v24 main_v23
  let main_v26 : FVec F S256x1x1024x25 .f32 := mulf main_v6 main_v6
  let main_v27 : IVec S256x1x1024x25 1 := cmpf .une main_v25 main_v26
  let main_v28 : IVec S256x1x1024x25 1 := andi main_v22 main_v27
  let main_cst_7 : FVec F S_ .f32 := constant S_ .f32 0x00000000#32
  let main_v29 : FVec F S256x1x1024x25 .f32 := broadcastInDim S256x1x1024x25 ![] bcast_S_S256x1x1024x25 main_cst_7
  let main_v30 : IVec S256x1x1024x25 1 := cmpf .oge main_v8 main_v29
  let main_v31 : FVec F S256x1x1024x25 .f32 := mulf main_v8 main_v8
  let main_cst_8 : FVec F S_ .f32 := constant S_ .f32 0x40400000#32
  let main_v32 : FVec F S256x1x1024x25 .f32 := broadcastInDim S256x1x1024x25 ![] bcast_S_S256x1x1024x25 main_cst_8
  let main_v33 : FVec F S256x1x1024x25 .f32 := mulf main_v32 main_v31
  let main_v34 : FVec F S256x1x1024x25 .f32 := mulf main_v14 main_v14
  let main_v35 : IVec S256x1x1024x25 1 := cmpf .une main_v33 main_v34
  let main_v36 : IVec S256x1x1024x25 1 := ori main_v30 main_v35
  let main_v37 : IVec S256x1x1024x25 1 := andi main_v28 main_v36
  fn_part2 (F := F) main_v8 main_v14 main_v17 main_v37

def fn {F : FTy → Type} [FloatOps F] (main_arg0 : FVec F S256x3x1024x25 .f32) : IVec S256x3x1024x25 1 × IVec S256x1x1024x25 1 × IVec S256x1x1024x25 1 :=
  let main_v0 : FVec F S256x1x1024x25 .f32 := (extractStridedSlice S256x1x1024x25 ![0, 0, 0, 0] · slices_S256x3x1024x25_S256x1x1024x25_0_0_0_0) main_arg0
  let main_v1 : FVec F S256x1x1024x25 .f32 := (extractStridedSlice S256x1x1024x25 ![0, 1, 0, 0] · slices_S256x3x1024x25_S256x1x1024x25_0_1_0_0) main_arg0
  let main_v2 : FVec F S256x1x1024x25 .f32 := (extractStridedSlice S256x1x1024x25 ![0, 2, 0, 0] · slices_S256x3x1024x25_S256x1x1024x25_0_2_0_0) main_arg0
  let main_cst : FVec F S_ .f32 := constant S_ .f32 0x3727C5AC#32
  let main_v3 : FVec F S256x1x1024x25 .f32 := broadcastInDim S256x1x1024x25 ![] bcast_S_S256x1x1024x25 main_cst
  let main_v4 : FVec F S256x1x1024x25 .f32 := addf main_v0 main_v3
  let main_cst_0 : FVec F S_ .f32 := constant S_ .f32 0x3727C5AC#32
  let main_v5 : FVec F S256x1x1024x25 .f32 := broadcastInDim S256x1x1024x25 ![] bcast_S_S256x1x1024x25 main_cst_0
  let main_v6 : FVec F S256x1x1024x25 .f32 := addf main_v1 main_v5
  let main_cst_1 : FVec F S_ .f32 := constant S_ .f32 0x3727C5AC#32
  let main_v7 : FVec F S256x1x1024x25 .f32 := broadcastInDim S256x1x1024x25 ![] bcast_S_S256x1x1024x25 main_cst_1
  let main_v8 : FVec F S256x1x1024x25 .f32 := addf main_v2 main_v7
  let main_v9 : FVec F S256x1x1024x25 .f32 := mulf main_v0 main_v0
  let main_v10 : FVec F S256x1x1024x25 .f32 := mulf main_v1 main_v1
  let main_v11 : FVec F S256x1x1024x25 .f32 := addf main_v9 main_v10
  let main_v12 : FVec F S256x1x1024x25 .f32 := Host.sqrt main_v11
  let main_cst_2 : FVec F S_ .f32 := constant S_ .f32 0x3727C5AC#32
  let main_v13 : FVec F S256x1x1024x25 .f32 := broadcastInDim S256x1x1024x25 ![] bcast_S_S256x1x1024x25 main_cst_2
  let main_v14 : FVec F S256x1x1024x25 .f32 := addf main_v12 main_v13
  let main_v15 : FVec F S256x3x1024x25 .f32 := Host.absf main_arg0
  let main_cst_3 : FVec F S_ .f32 := constant S_ .f32 0x7F800000#32
  let main_v16 : FVec F S256x3x1024x25 .f32 := broadcastInDim S256x3x1024x25 ![] bcast_S_S256x3x1024x25 main_cst_3
  let main_v17 : IVec S256x3x1024x25 1 := cmpf .olt main_v15 main_v16
  let main_cst_4 : FVec F S_ .f32 := constant S_ .f32 0x00000000#32
  fn_part1 (F := F) main_v4 main_v6 main_v8 main_v14 main_v17 main_cst_4
-- ==== Pre_finite.lean ====
abbrev S256x3x1024x25 : Shape := ⟨4, ![256, 3, 1024, 25]⟩
abbrev S_ : Shape := ⟨0, ![]⟩

class Facts : Prop where
  bcast_S_S256x3x1024x25 : S_.BroadcastsInDim S256x3x1024x25 (![] : Fin 0 → Fin S256x3x1024x25.rank)

variable [Facts]

def fn {F : FTy → Type} [FloatOps F] (main_arg0 : FVec F S256x3x1024x25 .f32) : IVec S256x3x1024x25 1 :=
  let main_v0 : FVec F S256x3x1024x25 .f32 := Host.absf main_arg0
  let main_cst : FVec F S_ .f32 := constant S_ .f32 0x7F800000#32
  let main_v1 : FVec F S256x3x1024x25 .f32 := broadcastInDim S256x3x1024x25 ![] bcast_S_S256x3x1024x25 main_cst
  let main_v2 : IVec S256x3x1024x25 1 := cmpf .olt main_v0 main_v1
  main_v2
-- ==== Pre_generic.lean ====
abbrev S256x3x1024x25 : Shape := ⟨4, ![256, 3, 1024, 25]⟩
abbrev S256x1x1024x25 : Shape := ⟨4, ![256, 1, 1024, 25]⟩
abbrev S_ : Shape := ⟨0, ![]⟩

class Facts : Prop where
  slices_S256x3x1024x25_S256x1x1024x25_0_0_0_0 : S256x3x1024x25.Slices ![0, 0, 0, 0] S256x1x1024x25
  slices_S256x3x1024x25_S256x1x1024x25_0_1_0_0 : S256x3x1024x25.Slices ![0, 1, 0, 0] S256x1x1024x25
  slices_S256x3x1024x25_S256x1x1024x25_0_2_0_0 : S256x3x1024x25.Slices ![0, 2, 0, 0] S256x1x1024x25
  bcast_S_S256x1x1024x25 : S_.BroadcastsInDim S256x1x1024x25 (![] : Fin 0 → Fin S256x1x1024x25.rank)
  bcast_S_S256x3x1024x25 : S_.BroadcastsInDim S256x3x1024x25 (![] : Fin 0 → Fin S256x3x1024x25.rank)

variable [Facts]

def fn_part1 {F : FTy → Type} [FloatOps F] (main_v4 : FVec F S256x1x1024x25 .f32) (main_v6 : FVec F S256x1x1024x25 .f32) (main_v8 : FVec F S256x1x1024x25 .f32) (main_v14 : FVec F S256x1x1024x25 .f32) (main_v17 : IVec S256x3x1024x25 1) (main_cst_4 : FVec F S_ .f32) : IVec S256x3x1024x25 1 × IVec S256x1x1024x25 1 :=
  let main_v18 : FVec F S256x1x1024x25 .f32 := broadcastInDim S256x1x1024x25 ![] bcast_S_S256x1x1024x25 main_cst_4
  let main_v19 : IVec S256x1x1024x25 1 := cmpf .une main_v4 main_v18
  let main_cst_5 : FVec F S_ .f32 := constant S_ .f32 0x00000000#32
  let main_v20 : FVec F S256x1x1024x25 .f32 := broadcastInDim S256x1x1024x25 ![] bcast_S_S256x1x1024x25 main_cst_5
  let main_v21 : IVec S256x1x1024x25 1 := cmpf .une main_v6 main_v20
  let main_v22 : IVec S256x1x1024x25 1 := andi main_v19 main_v21
  let main_v23 : FVec F S256x1x1024x25 .f32 := mulf main_v4 main_v4
  let main_cst_6 : FVec F S_ .f32 := constant S_ .f32 0x40800000#32
  let main_v24 : FVec F S256x1x1024x25 .f32 := broadcastInDim S256x1x1024x25 ![] bcast_S_S256x1x1024x25 main_cst_6
  let main_v25 : FVec F S256x1x1024x25 .f32 := mulf main_v24 main_v23
  let main_v26 : FVec F S256x1x1024x25 .f32 := mulf main_v6 main_v6
  let main_v27 : IVec S256x1x1024x25 1 := cmpf .une main_v25 main_v26
  let main_v28 : IVec S256x1x1024x25 1 := andi main_v22 main_v27
  let main_cst_7 : FVec F S_ .f32 := constant S_ .f32 0x00000000#32
  let main_v29 : FVec F S256x1x1024x25 .f32 := broadcastInDim S256x1x1024x25 ![] bcast_S_S256x1x1024x25 main_cst_7
  let main_v30 : IVec S256x1x1024x25 1 := cmpf .oge main_v8 main_v29
  let main_v31 : FVec F S256x1x1024x25 .f32 := mulf main_v8 main_v8
  let main_cst_8 : FVec F S_ .f32 := constant S_ .f32 0x40400000#32
  let main_v32 : FVec F S256x1x1024x25 .f32 := broadcastInDim S256x1x1024x25 ![] bcast_S_S256x1x1024x25 main_cst_8
  let main_v33 : FVec F S256x1x1024x25 .f32 := mulf main_v32 main_v31
  let main_v34 : FVec F S256x1x1024x25 .f32 := mulf main_v14 main_v14
  let main_v35 : IVec S256x1x1024x25 1 := cmpf .une main_v33 main_v34
  let main_v36 : IVec S256x1x1024x25 1 := ori main_v30 main_v35
  let main_v37 : IVec S256x1x1024x25 1 := andi main_v28 main_v36
  (main_v17, main_v37)

def fn {F : FTy → Type} [FloatOps F] (main_arg0 : FVec F S256x3x1024x25 .f32) : IVec S256x3x1024x25 1 × IVec S256x1x1024x25 1 :=
  let main_v0 : FVec F S256x1x1024x25 .f32 := (extractStridedSlice S256x1x1024x25 ![0, 0, 0, 0] · slices_S256x3x1024x25_S256x1x1024x25_0_0_0_0) main_arg0
  let main_v1 : FVec F S256x1x1024x25 .f32 := (extractStridedSlice S256x1x1024x25 ![0, 1, 0, 0] · slices_S256x3x1024x25_S256x1x1024x25_0_1_0_0) main_arg0
  let main_v2 : FVec F S256x1x1024x25 .f32 := (extractStridedSlice S256x1x1024x25 ![0, 2, 0, 0] · slices_S256x3x1024x25_S256x1x1024x25_0_2_0_0) main_arg0
  let main_cst : FVec F S_ .f32 := constant S_ .f32 0x3727C5AC#32
  let main_v3 : FVec F S256x1x1024x25 .f32 := broadcastInDim S256x1x1024x25 ![] bcast_S_S256x1x1024x25 main_cst
  let main_v4 : FVec F S256x1x1024x25 .f32 := addf main_v0 main_v3
  let main_cst_0 : FVec F S_ .f32 := constant S_ .f32 0x3727C5AC#32
  let main_v5 : FVec F S256x1x1024x25 .f32 := broadcastInDim S256x1x1024x25 ![] bcast_S_S256x1x1024x25 main_cst_0
  let main_v6 : FVec F S256x1x1024x25 .f32 := addf main_v1 main_v5
  let main_cst_1 : FVec F S_ .f32 := constant S_ .f32 0x3727C5AC#32
  let main_v7 : FVec F S256x1x1024x25 .f32 := broadcastInDim S256x1x1024x25 ![] bcast_S_S256x1x1024x25 main_cst_1
  let main_v8 : FVec F S256x1x1024x25 .f32 := addf main_v2 main_v7
  let main_v9 : FVec F S256x1x1024x25 .f32 := mulf main_v0 main_v0
  let main_v10 : FVec F S256x1x1024x25 .f32 := mulf main_v1 main_v1
  let main_v11 : FVec F S256x1x1024x25 .f32 := addf main_v9 main_v10
  let main_v12 : FVec F S256x1x1024x25 .f32 := Host.sqrt main_v11
  let main_cst_2 : FVec F S_ .f32 := constant S_ .f32 0x3727C5AC#32
  let main_v13 : FVec F S256x1x1024x25 .f32 := broadcastInDim S256x1x1024x25 ![] bcast_S_S256x1x1024x25 main_cst_2
  let main_v14 : FVec F S256x1x1024x25 .f32 := addf main_v12 main_v13
  let main_v15 : FVec F S256x3x1024x25 .f32 := Host.absf main_arg0
  let main_cst_3 : FVec F S_ .f32 := constant S_ .f32 0x7F800000#32
  let main_v16 : FVec F S256x3x1024x25 .f32 := broadcastInDim S256x3x1024x25 ![] bcast_S_S256x3x1024x25 main_cst_3
  let main_v17 : IVec S256x3x1024x25 1 := cmpf .olt main_v15 main_v16
  let main_cst_4 : FVec F S_ .f32 := constant S_ .f32 0x00000000#32
  fn_part1 (F := F) main_v4 main_v6 main_v8 main_v14 main_v17 main_cst_4
-- ==== Kernel.lean ====
abbrev S256x3x1024x25 : Shape := ⟨4, ![256, 3, 1024, 25]⟩
abbrev S256x3x25x1024 : Shape := ⟨4, ![256, 3, 25, 1024]⟩
abbrev S256x10x25x25 : Shape := ⟨4, ![256, 10, 25, 25]⟩
abbrev S8x3x25x1024 : Shape := ⟨4, ![8, 3, 25, 1024]⟩
abbrev S8x10x25x25 : Shape := ⟨4, ![8, 10, 25, 25]⟩
abbrev S8x1x25x1024 : Shape := ⟨4, ![8, 1, 25, 1024]⟩
abbrev S8x25x1024 : Shape := ⟨3, ![8, 25, 1024]⟩
abbrev S8x25x25 : Shape := ⟨3, ![8, 25, 25]⟩
abbrev S8x1x25x25 : Shape := ⟨4, ![8, 1, 25, 25]⟩
abbrev S1x25x1024 : Shape := ⟨3, ![1, 25, 1024]⟩
abbrev S25x1024 : Shape := ⟨2, ![25, 1024]⟩
abbrev S25x25 : Shape := ⟨2, ![25, 25]⟩
abbrev S1x1x25x25 : Shape := ⟨4, ![1, 1, 25, 25]⟩

abbrev nBuf : Space → Nat
  | .hbm => 3
  | .vmem => 4
  | .smem => 0
  | _ => 0

abbrev bufTy : (tb : Table) → Fin (tcTables nBuf tb) → BufTy
  | .hbm, ⟨0, _⟩ => ⟨S256x3x1024x25, .f32⟩
  | .hbm, ⟨1, _⟩ => ⟨S256x3x25x1024, .f32⟩
  | .hbm, ⟨2, _⟩ => ⟨S256x10x25x25, .f32⟩
  | .local _ .vmem, ⟨0, _⟩ => ⟨S8x3x25x1024, .f32⟩
  | .local _ .vmem, ⟨1, _⟩ => ⟨S8x3x25x1024, .f32⟩
  | .local _ .vmem, ⟨2, _⟩ => ⟨S8x10x25x25, .f32⟩
  | .local _ .vmem, ⟨3, _⟩ => ⟨S8x10x25x25, .f32⟩
  | _, _ => ⟨S256x3x1024x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x3x25x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x10x25x25 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "half_pi" => some ((2⁻¹ * Real.pi : ℝ) : EReal)
  | "neg_pi" => some ((-Real.pi : ℝ) : EReal)
  | "pi" => some ((Real.pi : ℝ) : EReal)
  | "two_pi" => some ((2 * Real.pi : ℝ) : EReal)
  | _ => none
-- ==== ReferenceIdeal.lean ====
abbrev S256x3x1024x25 : Shape := ⟨4, ![256, 3, 1024, 25]⟩
abbrev S256x1x1024x25 : Shape := ⟨4, ![256, 1, 1024, 25]⟩
abbrev S256x1024x25 : Shape := ⟨3, ![256, 1024, 25]⟩
abbrev S_ : Shape := ⟨0, ![]⟩
abbrev S256x10x1024x25 : Shape := ⟨4, ![256, 10, 1024, 25]⟩
abbrev S256x10x25x25 : Shape := ⟨4, ![256, 10, 25, 25]⟩

abbrev nBuf : Space → Nat
  | .hbm => 254
  | .vmem => 0
  | .smem => 0
  | _ => 0

abbrev hbmTy0_0 (i : Nat) : BufTy := match i % 128 with
  | 0 => ⟨S256x3x1024x25, .f32⟩
  | 1 => ⟨S256x1x1024x25, .f32⟩
  | 2 => ⟨S256x1024x25, .f32⟩
  | 3 => ⟨S256x1024x25, .f32⟩
  | 4 => ⟨S256x1x1024x25, .f32⟩
  | 5 => ⟨S256x1024x25, .f32⟩
  | 6 => ⟨S256x1024x25, .f32⟩
  | 7 => ⟨S256x1024x25, .f32⟩
  | 8 => ⟨S256x1024x25, .f32⟩
  | 9 => ⟨S_, .f32⟩
  | 10 => ⟨S256x1024x25, .f32⟩
  | 11 => ⟨S256x1024x25, .f32⟩
  | 12 => ⟨S256x1x1024x25, .f32⟩
  | 13 => ⟨S256x1024x25, .f32⟩
  | 14 => ⟨S_, .f32⟩
  | 15 => ⟨S256x1024x25, .f32⟩
  | 16 => ⟨S256x1024x25, .f32⟩
  | 17 => ⟨S256x1024x25, .f32⟩
  | 18 => ⟨S256x1x1024x25, .f32⟩
  | 19 => ⟨S256x1024x25, .f32⟩
  | 20 => ⟨S_, .f32⟩
  | 21 => ⟨S256x1024x25, .f32⟩
  | 22 => ⟨S256x1024x25, .f32⟩
  | 23 => ⟨S256x1x1024x25, .f32⟩
  | 24 => ⟨S256x1024x25, .f32⟩
  | 25 => ⟨S_, .f32⟩
  | 26 => ⟨S256x1024x25, .f32⟩
  | 27 => ⟨S256x1024x25, .f32⟩
  | 28 => ⟨S256x1024x25, .f32⟩
  | 29 => ⟨S256x1024x25, .f32⟩
  | 30 => ⟨S256x1024x25, .f32⟩
  | 31 => ⟨S_, .f32⟩
  | 32 => ⟨S256x1024x25, .f32⟩
  | 33 => ⟨S256x1024x25, .f32⟩
  | 34 => ⟨S_, .f32⟩
  | 35 => ⟨S_, .f32⟩
  | 36 => ⟨S_, .f32⟩
  | 37 => ⟨S256x1024x25, .f32⟩
  | 38 => ⟨S256x1024x25, .f32⟩
  | 39 => ⟨S_, .f32⟩
  | 40 => ⟨S256x1024x25, .f32⟩
  | 41 => ⟨S256x1024x25, .f32⟩
  | 42 => ⟨S256x1024x25, .f32⟩
  | 43 => ⟨S_, .f32⟩
  | 44 => ⟨S256x1024x25, .f32⟩
  | 45 => ⟨S256x1024x25, .f32⟩
  | 46 => ⟨S_, .f32⟩
  | 47 => ⟨S256x1024x25, .f32⟩
  | 48 => ⟨S256x1024x25, .f32⟩
  | 49 => ⟨S256x1024x25, .f32⟩
  | 50 => ⟨S_, .f32⟩
  | 51 => ⟨S256x1024x25, .f32⟩
  | 52 => ⟨S256x1024x25, .f32⟩
  | 53 => ⟨S_, .f32⟩
  | 54 => ⟨S256x1024x25, .f32⟩
  | 55 => ⟨S256x1024x25, .f32⟩
  | 56 => ⟨S_, .f32⟩
  | 57 => ⟨S256x1024x25, .f32⟩
  | 58 => ⟨S256x1024x25, .f32⟩
  | 59 => ⟨S256x1024x25, .f32⟩
  | 60 => ⟨S256x1024x25, .f32⟩
  | 61 => ⟨S_, .f32⟩
  | 62 => ⟨S256x1024x25, .f32⟩
  | 63 => ⟨S256x1024x25, .f32⟩
  | 64 => ⟨S_, .f32⟩
  | 65 => ⟨S256x1024x25, .f32⟩
  | 66 => ⟨S256x1024x25, .f32⟩
  | 67 => ⟨S_, .f32⟩
  | 68 => ⟨S256x1024x25, .f32⟩
  | 69 => ⟨S256x1024x25, .f32⟩
  | 70 => ⟨S_, .f32⟩
  | 71 => ⟨S256x1024x25, .f32⟩
  | 72 => ⟨S256x1024x25, .f32⟩
  | 73 => ⟨S256x1024x25, .f32⟩
  | 74 => ⟨S_, .f32⟩
  | 75 => ⟨S256x1024x25, .f32⟩
  | 76 => ⟨S256x1024x25, .f32⟩
  | 77 => ⟨S256x1024x25, .f32⟩
  | 78 => ⟨S_, .f32⟩
  | 79 => ⟨S256x1024x25, .f32⟩
  | 80 => ⟨S256x1024x25, .f32⟩
  | 81 => ⟨S256x1024x25, .f32⟩
  | 82 => ⟨S_, .f32⟩
  | 83 => ⟨S256x1024x25, .f32⟩
  | 84 => ⟨S256x1024x25, .f32⟩
  | 85 => ⟨S_, .f32⟩
  | 86 => ⟨S256x1024x25, .f32⟩
  | 87 => ⟨S256x1024x25, .f32⟩
  | 88 => ⟨S256x1024x25, .f32⟩
  | 89 => ⟨S_, .f32⟩
  | 90 => ⟨S256x1024x25, .f32⟩
  | 91 => ⟨S256x1024x25, .f32⟩
  | 92 => ⟨S256x1024x25, .f32⟩
  | 93 => ⟨S_, .f32⟩
  | 94 => ⟨S256x1024x25, .f32⟩
  | 95 => ⟨S256x1024x25, .f32⟩
  | 96 => ⟨S256x1024x25, .f32⟩
  | 97 => ⟨S_, .f32⟩
  | 98 => ⟨S256x1024x25, .f32⟩
  | 99 => ⟨S256x1024x25, .f32⟩
  | 100 => ⟨S256x1024x25, .f32⟩
  | 101 => ⟨S256x1024x25, .f32⟩
  | 102 => ⟨S_, .f32⟩
  | 103 => ⟨S256x1024x25, .f32⟩
  | 104 => ⟨S256x1024x25, .f32⟩
  | 105 => ⟨S_, .f32⟩
  | 106 => ⟨S256x1024x25, .f32⟩
  | 107 => ⟨S256x1024x25, .f32⟩
  | 108 => ⟨S256x1024x25, .f32⟩
  | 109 => ⟨S256x1024x25, .f32⟩
  | 110 => ⟨S_, .f32⟩
  | 111 => ⟨S256x1024x25, .f32⟩
  | 112 => ⟨S256x1024x25, .f32⟩
  | 113 => ⟨S256x1024x25, .f32⟩
  | 114 => ⟨S256x1024x25, .f32⟩
  | 115 => ⟨S256x1024x25, .f32⟩
  | 116 => ⟨S_, .f32⟩
  | 117 => ⟨S256x1024x25, .f32⟩
  | 118 => ⟨S256x1024x25, .f32⟩
  | 119 => ⟨S_, .f32⟩
  | 120 => ⟨S256x1024x25, .f32⟩
  | 121 => ⟨S256x1024x25, .f32⟩
  | 122 => ⟨S256x1024x25, .f32⟩
  | 123 => ⟨S256x1024x25, .f32⟩
  | 124 => ⟨S_, .f32⟩
  | 125 => ⟨S256x1024x25, .f32⟩
  | 126 => ⟨S256x1024x25, .f32⟩
  | 127 => ⟨S256x1024x25, .f32⟩
  | _ => ⟨S256x3x1024x25, .f32⟩

abbrev hbmTy0_1 (i : Nat) : BufTy := match i % 128 with
  | 0 => ⟨S256x1024x25, .f32⟩
  | 1 => ⟨S256x1024x25, .f32⟩
  | 2 => ⟨S_, .f32⟩
  | 3 => ⟨S256x1024x25, .f32⟩
  | 4 => ⟨S256x1024x25, .f32⟩
  | 5 => ⟨S_, .f32⟩
  | 6 => ⟨S256x1024x25, .f32⟩
  | 7 => ⟨S256x1024x25, .f32⟩
  | 8 => ⟨S256x1024x25, .f32⟩
  | 9 => ⟨S256x1024x25, .f32⟩
  | 10 => ⟨S_, .f32⟩
  | 11 => ⟨S256x1024x25, .f32⟩
  | 12 => ⟨S256x1024x25, .f32⟩
  | 13 => ⟨S256x1024x25, .f32⟩
  | 14 => ⟨S256x1024x25, .f32⟩
  | 15 => ⟨S256x1024x25, .f32⟩
  | 16 => ⟨S_, .f32⟩
  | 17 => ⟨S256x1024x25, .f32⟩
  | 18 => ⟨S256x1024x25, .f32⟩
  | 19 => ⟨S_, .f32⟩
  | 20 => ⟨S256x1024x25, .f32⟩
  | 21 => ⟨S256x1024x25, .f32⟩
  | 22 => ⟨S256x1024x25, .f32⟩
  | 23 => ⟨S256x1024x25, .f32⟩
  | 24 => ⟨S_, .f32⟩
  | 25 => ⟨S256x1024x25, .f32⟩
  | 26 => ⟨S256x1024x25, .f32⟩
  | 27 => ⟨S256x1024x25, .f32⟩
  | 28 => ⟨S256x1024x25, .f32⟩
  | 29 => ⟨S256x1024x25, .f32⟩
  | 30 => ⟨S_, .f32⟩
  | 31 => ⟨S256x1024x25, .f32⟩
  | 32 => ⟨S256x1024x25, .f32⟩
  | 33 => ⟨S_, .f32⟩
  | 34 => ⟨S256x1024x25, .f32⟩
  | 35 => ⟨S256x1024x25, .f32⟩
  | 36 => ⟨S256x1024x25, .f32⟩
  | 37 => ⟨S256x1024x25, .f32⟩
  | 38 => ⟨S_, .f32⟩
  | 39 => ⟨S256x1024x25, .f32⟩
  | 40 => ⟨S256x1024x25, .f32⟩
  | 41 => ⟨S256x1024x25, .f32⟩
  | 42 => ⟨S256x1024x25, .f32⟩
  | 43 => ⟨S256x1024x25, .f32⟩
  | 44 => ⟨S_, .f32⟩
  | 45 => ⟨S256x1024x25, .f32⟩
  | 46 => ⟨S256x1024x25, .f32⟩
  | 47 => ⟨S_, .f32⟩
  | 48 => ⟨S256x1024x25, .f32⟩
  | 49 => ⟨S256x1024x25, .f32⟩
  | 50 => ⟨S256x1024x25, .f32⟩
  | 51 => ⟨S256x1024x25, .f32⟩
  | 52 => ⟨S_, .f32⟩
  | 53 => ⟨S256x1024x25, .f32⟩
  | 54 => ⟨S256x1024x25, .f32⟩
  | 55 => ⟨S256x1024x25, .f32⟩
  | 56 => ⟨S256x1024x25, .f32⟩
  | 57 => ⟨S256x1024x25, .f32⟩
  | 58 => ⟨S_, .f32⟩
  | 59 => ⟨S256x1024x25, .f32⟩
  | 60 => ⟨S256x1024x25, .f32⟩
  | 61 => ⟨S_, .f32⟩
  | 62 => ⟨S256x1024x25, .f32⟩
  | 63 => ⟨S256x1024x25, .f32⟩
  | 64 => ⟨S256x1024x25, .f32⟩
  | 65 => ⟨S256x1024x25, .f32⟩
  | 66 => ⟨S_, .f32⟩
  | 67 => ⟨S256x1024x25, .f32⟩
  | 68 => ⟨S256x1024x25, .f32⟩
  | 69 => ⟨S256x1024x25, .f32⟩
  | 70 => ⟨S256x1024x25, .f32⟩
  | 71 => ⟨S256x1024x25, .f32⟩
  | 72 => ⟨S_, .f32⟩
  | 73 => ⟨S256x1024x25, .f32⟩
  | 74 => ⟨S256x1024x25, .f32⟩
  | 75 => ⟨S_, .f32⟩
  | 76 => ⟨S256x1024x25, .f32⟩
  | 77 => ⟨S256x1024x25, .f32⟩
  | 78 => ⟨S256x1024x25, .f32⟩
  | 79 => ⟨S256x1024x25, .f32⟩
  | 80 => ⟨S_, .f32⟩
  | 81 => ⟨S256x1024x25, .f32⟩
  | 82 => ⟨S256x1024x25, .f32⟩
  | 83 => ⟨S256x1024x25, .f32⟩
  | 84 => ⟨S256x1024x25, .f32⟩
  | 85 => ⟨S256x1024x25, .f32⟩
  | 86 => ⟨S_, .f32⟩
  | 87 => ⟨S256x1024x25, .f32⟩
  | 88 => ⟨S256x1024x25, .f32⟩
  | 89 => ⟨S_, .f32⟩
  | 90 => ⟨S256x1024x25, .f32⟩
  | 91 => ⟨S256x1024x25, .f32⟩
  | 92 => ⟨S256x1024x25, .f32⟩
  | 93 => ⟨S256x1024x25, .f32⟩
  | 94 => ⟨S_, .f32⟩
  | 95 => ⟨S256x1024x25, .f32⟩
  | 96 => ⟨S256x1024x25, .f32⟩
  | 97 => ⟨S256x1024x25, .f32⟩
  | 98 => ⟨S256x1024x25, .f32⟩
  | 99 => ⟨S256x1024x25, .f32⟩
  | 100 => ⟨S_, .f32⟩
  | 101 => ⟨S256x1024x25, .f32⟩
  | 102 => ⟨S256x1024x25, .f32⟩
  | 103 => ⟨S_, .f32⟩
  | 104 => ⟨S256x1024x25, .f32⟩
  | 105 => ⟨S256x1024x25, .f32⟩
  | 106 => ⟨S256x1024x25, .f32⟩
  | 107 => ⟨S256x1024x25, .f32⟩
  | 108 => ⟨S_, .f32⟩
  | 109 => ⟨S256x1024x25, .f32⟩
  | 110 => ⟨S256x1024x25, .f32⟩
  | 111 => ⟨S256x1024x25, .f32⟩
  | 112 => ⟨S256x1024x25, .f32⟩
  | 113 => ⟨S256x1024x25, .f32⟩
  | 114 => ⟨S256x1x1024x25, .f32⟩
  | 115 => ⟨S256x1x1024x25, .f32⟩
  | 116 => ⟨S256x1x1024x25, .f32⟩
  | 117 => ⟨S256x1x1024x25, .f32⟩
  | 118 => ⟨S256x1x1024x25, .f32⟩
  | 119 => ⟨S256x1x1024x25, .f32⟩
  | 120 => ⟨S256x1x1024x25, .f32⟩
  | 121 => ⟨S256x1x1024x25, .f32⟩
  | 122 => ⟨S256x1x1024x25, .f32⟩
  | 123 => ⟨S256x1x1024x25, .f32⟩
  | 124 => ⟨S256x10x1024x25, .f32⟩
  | 125 => ⟨S256x10x25x25, .f32⟩
  | _ => ⟨S256x3x1024x25, .f32⟩

abbrev hbmTy (i : Nat) : BufTy := match i / 128 with
  | 0 => hbmTy0_0 i
  | 1 => hbmTy0_1 i
  | _ => ⟨S256x3x1024x25, .f32⟩

abbrev bufTy : (tb : Table) → Fin (tcTables nBuf tb) → BufTy
  | .hbm, ⟨i, _⟩ => hbmTy i
  | _, _ => ⟨S256x3x1024x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_1 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_2 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_3 : Ref sig .tc := ⟨.hbm, 31, rfl⟩
abbrev main_v26 : Ref sig .tc := ⟨.hbm, 32, rfl⟩
abbrev main_v27 : Ref sig .tc := ⟨.hbm, 33, rfl⟩
abbrev main_cst_4 : Ref sig .tc := ⟨.hbm, 34, rfl⟩
abbrev main_cst_5 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_cst_12 : Ref sig .tc := ⟨.hbm, 64, rfl⟩
abbrev main_v45 : Ref sig .tc := ⟨.hbm, 65, rfl⟩
abbrev main_v46 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩
abbrev main_cst_14 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_15 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_16 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_17 : Ref sig .tc := ⟨.hbm, 82, rfl⟩
abbrev main_v58 : Ref sig .tc := ⟨.hbm, 83, rfl⟩
abbrev main_v59 : Ref sig .tc := ⟨.hbm, 84, rfl⟩
abbrev main_cst_18 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_19 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_20 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_21 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_22 : Ref sig .tc := ⟨.hbm, 102, rfl⟩
abbrev main_v73 : Ref sig .tc := ⟨.hbm, 103, rfl⟩
abbrev main_v74 : Ref sig .tc := ⟨.hbm, 104, rfl⟩
abbrev main_cst_23 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_24 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_25 : Ref sig .tc := ⟨.hbm, 116, rfl⟩
abbrev main_v84 : Ref sig .tc := ⟨.hbm, 117, rfl⟩
abbrev main_v85 : Ref sig .tc := ⟨.hbm, 118, rfl⟩
abbrev main_cst_26 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_27 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_28 : Ref sig .tc := ⟨.hbm, 130, rfl⟩
abbrev main_v95 : Ref sig .tc := ⟨.hbm, 131, rfl⟩
abbrev main_v96 : Ref sig .tc := ⟨.hbm, 132, rfl⟩
abbrev main_cst_29 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_30 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_31 : Ref sig .tc := ⟨.hbm, 144, rfl⟩
abbrev main_v106 : Ref sig .tc := ⟨.hbm, 145, rfl⟩
abbrev main_v107 : Ref sig .tc := ⟨.hbm, 146, rfl⟩
abbrev main_cst_32 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_33 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_34 : Ref sig .tc := ⟨.hbm, 158, rfl⟩
abbrev main_v117 : Ref sig .tc := ⟨.hbm, 159, rfl⟩
abbrev main_v118 : Ref sig .tc := ⟨.hbm, 160, rfl⟩
abbrev main_cst_35 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_cst_36 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_cst_37 : Ref sig .tc := ⟨.hbm, 172, rfl⟩
abbrev main_v128 : Ref sig .tc := ⟨.hbm, 173, rfl⟩
abbrev main_v129 : Ref sig .tc := ⟨.hbm, 174, rfl⟩
abbrev main_cst_38 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_cst_39 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_cst_40 : Ref sig .tc := ⟨.hbm, 186, rfl⟩
abbrev main_v139 : Ref sig .tc := ⟨.hbm, 187, rfl⟩
abbrev main_v140 : Ref sig .tc := ⟨.hbm, 188, rfl⟩
abbrev main_cst_41 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_cst_42 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_cst_43 : Ref sig .tc := ⟨.hbm, 200, rfl⟩
abbrev main_v150 : Ref sig .tc := ⟨.hbm, 201, rfl⟩
abbrev main_v151 : Ref sig .tc := ⟨.hbm, 202, rfl⟩
abbrev main_cst_44 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_cst_45 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_cst_46 : Ref sig .tc := ⟨.hbm, 214, rfl⟩
abbrev main_v161 : Ref sig .tc := ⟨.hbm, 215, rfl⟩
abbrev main_v162 : Ref sig .tc := ⟨.hbm, 216, rfl⟩
abbrev main_cst_47 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_cst_48 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_cst_49 : Ref sig .tc := ⟨.hbm, 228, rfl⟩
abbrev main_v172 : Ref sig .tc := ⟨.hbm, 229, rfl⟩
abbrev main_v173 : Ref sig .tc := ⟨.hbm, 230, rfl⟩
abbrev main_cst_50 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_cst_51 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩

abbrev nD : Nat := 1
abbrev τ : Topo := Topo.v7x

variable {F : FTy → Type} [FloatOps F]
-- ==== Arctan.lean ====
abbrev S256x3x1024x25 : Shape := ⟨4, ![256, 3, 1024, 25]⟩
abbrev S256x3x25x1024 : Shape := ⟨4, ![256, 3, 25, 1024]⟩
abbrev S256x10x25x25 : Shape := ⟨4, ![256, 10, 25, 25]⟩
abbrev S8x3x25x1024 : Shape := ⟨4, ![8, 3, 25, 1024]⟩
abbrev S8x10x25x25 : Shape := ⟨4, ![8, 10, 25, 25]⟩
abbrev S8x1x25x1024 : Shape := ⟨4, ![8, 1, 25, 1024]⟩
abbrev S8x25x1024 : Shape := ⟨3, ![8, 25, 1024]⟩
abbrev S8x25x25 : Shape := ⟨3, ![8, 25, 25]⟩
abbrev S8x1x25x25 : Shape := ⟨4, ![8, 1, 25, 25]⟩
abbrev S1x25x1024 : Shape := ⟨3, ![1, 25, 1024]⟩
abbrev S25x1024 : Shape := ⟨2, ![25, 1024]⟩
abbrev S25x25 : Shape := ⟨2, ![25, 25]⟩
abbrev S1x1x25x25 : Shape := ⟨4, ![1, 1, 25, 25]⟩

abbrev nBuf : Space → Nat
  | .hbm => 3
  | .vmem => 4
  | .smem => 0
  | _ => 0

abbrev bufTy : (tb : Table) → Fin (tcTables nBuf tb) → BufTy
  | .hbm, ⟨0, _⟩ => ⟨S256x3x1024x25, .f32⟩
  | .hbm, ⟨1, _⟩ => ⟨S256x3x25x1024, .f32⟩
  | .hbm, ⟨2, _⟩ => ⟨S256x10x25x25, .f32⟩
  | .local _ .vmem, ⟨0, _⟩ => ⟨S8x3x25x1024, .f32⟩
  | .local _ .vmem, ⟨1, _⟩ => ⟨S8x3x25x1024, .f32⟩
  | .local _ .vmem, ⟨2, _⟩ => ⟨S8x10x25x25, .f32⟩
  | .local _ .vmem, ⟨3, _⟩ => ⟨S8x10x25x25, .f32⟩
  | _, _ => ⟨S256x3x1024x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x3x25x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x10x25x25 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ArctanIdeal.lean ====
variable {F : FTy → Type} [FloatOps F] [Named F]
def κ : String → Option EReal := fun
  | "half_pi" => some ((2⁻¹ * Real.pi : ℝ) : EReal)
  | "neg_pi" => some ((-Real.pi : ℝ) : EReal)
  | "pi" => some ((Real.pi : ℝ) : EReal)
  | "two_pi" => some ((2 * Real.pi : ℝ) : EReal)
  | _ => none
-- ==== Proof.ArctanArray.lean ====
module

public import proofs.«01_k».proof.Proof.Gen.ArctanIdeal.Value
public import Idealize.ShloMosaic.Lib.Pointwise
public import Idealize.ShloMosaic.Lib.Pipeline.ValueKit
public import Idealize.ShloMosaic.Lib.Pipeline.ReadBack

/-! # The array that the kernel with the arctangent leaves

One step stores the Gram matrices of a block of eight rows; the blocks of all steps make up the array `result`. -/

@[expose] public section

noncomputable section

namespace Cert.ArctanIdeal.Own

open Cert.ArctanIdeal Cert.ArctanIdeal.Gen Idealize.ShloMosaic Idealize.ShloMosaic.TcCoe
open Idealize.ShloMosaic.Pipeline (Dat)

/-- The phase of channel `c` that the body computes from the three coordinate planes of a block; channel 0 is not computed, its result is filled with zeros. -/
def phase (p0 p1 p2 : FVec Ideal S8x1x25x1024 .f32) : Fin 10 → FVec Ideal S8x25x1024 .f32
  | 0 => fun _ => 0
  | 1 => k0_pay17 (k0_pay2 p0)
  | 2 => k0_pay18 (k0_pay6 p0 p1 p2)
  | 3 => k0_pay19 (k0_pay2 p0) (k0_pay3 p1)
  | 4 => k0_pay20 (k0_pay2 p0) (k0_pay6 p0 p1 p2)
  | 5 => k0_pay7 p0 p1 p2
  | 6 => k0_pay22 (k0_pay12 (k0_pay2 p0)) (k0_pay13 (k0_pay2 p0)) (k0_pay14 (k0_pay3 p1)) k0_pay15 k0_pay16 k0_pay21
  | 7 => k0_pay23 (k0_pay6 p0 p1 p2) (k0_pay13 (k0_pay2 p0)) (k0_pay14 (k0_pay3 p1))
  | 8 => k0_pay24 (k0_pay7 p0 p1 p2) (k0_pay10 (k0_pay5 p2)) (k0_pay12 (k0_pay2 p0))
  | 9 => k0_pay25 (k0_pay9 (k0_pay6 p0 p1 p2) k0_pay8) (k0_pay11 (k0_pay4 p0 p1) (k0_pay5 p2))

/-- Plane `a` of a block: the coordinate `a` of every point. -/
def plane (x : FVec Ideal S8x3x25x1024 .f32) (a : Fin 3) : FVec Ideal S8x1x25x1024 .f32 :=
  fun j => x (ix4 (j 0) a (j 2) (j 3))

/-- The block that the body stores: for each row and channel the Gram matrix of the phases over the 1024 positions. -/
def gram (x : FVec Ideal S8x3x25x1024 .f32) : FVec Ideal S8x10x25x25 .f32 := fun y =>
  ∑ k : Fin 1024, phase (plane x 0) (plane x 1) (plane x 2) (y 1) (ix3 (y 0) (y 2) k)
    * phase (plane x 0) (plane x 1) (plane x 2) (y 1) (ix3 (y 0) (y 3) k)

/-- A load of plane 0, 1 or 2 of a block is the plane. -/
theorem ld_plane0 (x : FVec Ideal S8x3x25x1024 .f32) :
    View.ld (Val := Elt Ideal) (e' := .f32) x (Rect.unit (s := S8x3x25x1024) ![0, 0, 0, 0] ![8, 1, 25, 1024] inb_S8x3x25x1024_S8x1x25x1024_0_0_0_0) = plane x 0 := by
  funext j; idx_vars j; pointwise [plane]
/-- The same for the second coordinate. -/
theorem ld_plane1 (x : FVec Ideal S8x3x25x1024 .f32) :
    View.ld (Val := Elt Ideal) (e' := .f32) x (Rect.unit (s := S8x3x25x1024) ![0, 1, 0, 0] ![8, 1, 25, 1024] inb_S8x3x25x1024_S8x1x25x1024_0_1_0_0) = plane x 1 := by
  funext j; idx_vars j; pointwise [plane]
/-- The same for the third coordinate. -/
theorem ld_plane2 (x : FVec Ideal S8x3x25x1024 .f32) :
    View.ld (Val := Elt Ideal) (e' := .f32) x (Rect.unit (s := S8x3x25x1024) ![0, 2, 0, 0] ![8, 1, 25, 1024] inb_S8x3x25x1024_S8x1x25x1024_0_2_0_0) = plane x 2 := by
  funext j; idx_vars j; pointwise [plane]

/-- What the body stores for member `n` of its block and channel `c` is that member's and channel's part of `gram`. -/
theorem piece (x : FVec Ideal S8x3x25x1024 .f32) (n c : ℕ) (hn : n < 8) (hc : c < 10) (hs : S8x25x1024.Slices ![n, 0, 0] S1x25x1024)
    (inb : ∀ a : Fin S8x10x25x25.rank, (![n, c, 0, 0] : Fin 4 → ℕ) a + (![1, 1, 25, 25] : Fin 4 → ℕ) a ≤ S8x10x25x25.size a)
    (p : S1x1x25x25.Idx) :
    shapeCast S1x1x25x25 (matmul dot_S25x1024_S25x1024_S25x25_1_1_0_0_n_n none
      (shapeCast S25x1024 (extractStridedSlice S1x25x1024 ![n, 0, 0] (phase (plane x 0) (plane x 1) (plane x 2) ⟨c, hc⟩) hs) shapeCasts_S1x25x1024_S25x1024)
      (shapeCast S25x1024 (extractStridedSlice S1x25x1024 ![n, 0, 0] (phase (plane x 0) (plane x 1) (plane x 2) ⟨c, hc⟩) hs) shapeCasts_S1x25x1024_S25x1024)
      (constant S25x25 .f32 0x00000000#32)) shapeCasts_S25x25_S1x1x25x25 p
      = gram x ((Rect.unit (s := S8x10x25x25) ![n, c, 0, 0] ![1, 1, 25, 25] inb).emb p) := by
  have e : (Rect.unit (s := S8x10x25x25) ![n, c, 0, 0] ![1, 1, 25, 25] inb).emb p
      = ix4 (⟨n, hn⟩ : Fin 8) (⟨c, hc⟩ : Fin 10) (p 2) (p 3) := by
    idx_vars p
    funext a
    refine Fin.ext ?_
    match a with
    | ⟨0, _⟩ | ⟨1, _⟩ | ⟨2, _⟩ | ⟨3, _⟩ => simp [Rect.emb, Rect.unit]
  rw [e]
  idx_vars p
  pointwise [gram]

/-- What the body fills channel 0 with is that channel's part of `gram`. -/
theorem fill (x : FVec Ideal S8x3x25x1024 .f32)
    (inb : ∀ a : Fin S8x10x25x25.rank, (![0, 0, 0, 0] : Fin 4 → ℕ) a + (![8, 1, 25, 25] : Fin 4 → ℕ) a ≤ S8x10x25x25.size a)
    (p : S8x1x25x25.Idx) :
    k0_pay26 (F := Ideal) p = gram x ((Rect.unit (s := S8x10x25x25) ![0, 0, 0, 0] ![8, 1, 25, 25] inb).emb p) := by
  have e : (Rect.unit (s := S8x10x25x25) ![0, 0, 0, 0] ![8, 1, 25, 25] inb).emb p
      = ix4 (p 0) (0 : Fin 10) (p 2) (p 3) := by
    idx_vars p
    funext a
    refine Fin.ext ?_
    match a with
    | ⟨0, _⟩ | ⟨1, _⟩ | ⟨2, _⟩ | ⟨3, _⟩ => simp [Rect.emb, Rect.unit]
  rw [e]
  idx_vars p
  pointwise [gram, k0_pay26]
  simp [phase]

variable (m : (ℓ : Loc nD τ sig) → Buf (Elt Ideal) ℓ)

/-- What step `t` leaves in its output block, from its input block. -/
theorem out_block (c : Dev nD) (t : Fin cfg0.N) :
    out0_A_1 (F := Ideal) c (grid0.coords t) (ms0_0 t) (hs0_0 t) (ms0_1 t) (hs0_1 t) (iblk m c 0 t) = gram (iblk m c 0 t) := by
  frame_out
  simp only [ld_plane0, ld_plane1, ld_plane2]
  generalize iblk m c 0 t = x
  funext y
  rw [← List.append_nil (List.cons _ _)]
  refine View.canon_append_of_piecesOf (Val := Elt Ideal) (e := .f32) (gram x) [] _ ?_ y ?_
  · refine ⟨
    piece x 7 9 (by decide) (by decide) slices_S8x25x1024_o7_0_0_S1x25x1024 inb_S8x10x25x25_S1x1x25x25_7_9_0_0,
    piece x 7 8 (by decide) (by decide) slices_S8x25x1024_o7_0_0_S1x25x1024 inb_S8x10x25x25_S1x1x25x25_7_8_0_0,
    piece x 7 7 (by decide) (by decide) slices_S8x25x1024_o7_0_0_S1x25x1024 inb_S8x10x25x25_S1x1x25x25_7_7_0_0,
    piece x 7 6 (by decide) (by decide) slices_S8x25x1024_o7_0_0_S1x25x1024 inb_S8x10x25x25_S1x1x25x25_7_6_0_0,
    piece x 7 5 (by decide) (by decide) slices_S8x25x1024_o7_0_0_S1x25x1024 inb_S8x10x25x25_S1x1x25x25_7_5_0_0,
    piece x 7 4 (by decide) (by decide) slices_S8x25x1024_o7_0_0_S1x25x1024 inb_S8x10x25x25_S1x1x25x25_7_4_0_0,
    piece x 7 3 (by decide) (by decide) slices_S8x25x1024_o7_0_0_S1x25x1024 inb_S8x10x25x25_S1x1x25x25_7_3_0_0,
    piece x 7 2 (by decide) (by decide) slices_S8x25x1024_o7_0_0_S1x25x1024 inb_S8x10x25x25_S1x1x25x25_7_2_0_0,
    piece x 7 1 (by decide) (by decide) slices_S8x25x1024_o7_0_0_S1x25x1024 inb_S8x10x25x25_S1x1x25x25_7_1_0_0,
    piece x 6 9 (by decide) (by decide) slices_S8x25x1024_o6_0_0_S1x25x1024 inb_S8x10x25x25_S1x1x25x25_6_9_0_0,
    piece x 6 8 (by decide) (by decide) slices_S8x25x1024_o6_0_0_S1x25x1024 inb_S8x10x25x25_S1x1x25x25_6_8_0_0,
    piece x 6 7 (by decide) (by decide) slices_S8x25x1024_o6_0_0_S1x25x1024 inb_S8x10x25x25_S1x1x25x25_6_7_0_0,
    piece x 6 6 (by decide) (by decide) slices_S8x25x1024_o6_0_0_S1x25x1024 inb_S8x10x25x25_S1x1x25x25_6_6_0_0,
    piece x 6 5 (by decide) (by decide) slices_S8x25x1024_o6_0_0_S1x25x1024 inb_S8x10x25x25_S1x1x25x25_6_5_0_0,
    piece x 6 4 (by decide) (by decide) slices_S8x25x1024_o6_0_0_S1x25x1024 inb_S8x10x25x25_S1x1x25x25_6_4_0_0,
    piece x 6 3 (by decide) (by decide) slices_S8x25x1024_o6_0_0_S1x25x1024 inb_S8x10x25x25_S1x1x25x25_6_3_0_0,
    piece x 6 2 (by decide) (by decide) slices_S8x25x1024_o6_0_0_S1x25x1024 inb_S8x10x25x25_S1x1x25x25_6_2_0_0,
    piece x 6 1 (by decide) (by decide) slices_S8x25x1024_o6_0_0_S1x25x1024 inb_S8x10x25x25_S1x1x25x25_6_1_0_0,
    piece x 5 9 (by decide) (by decide) slices_S8x25x1024_o5_0_0_S1x25x1024 inb_S8x10x25x25_S1x1x25x25_5_9_0_0,
    piece x 5 8 (by decide) (by decide) slices_S8x25x1024_o5_0_0_S1x25x1024 inb_S8x10x25x25_S1x1x25x25_5_8_0_0,
    piece x 5 7 (by decide) (by decide) slices_S8x25x1024_o5_0_0_S1x25x1024 inb_S8x10x25x25_S1x1x25x25_5_7_0_0,
    piece x 5 6 (by decide) (by decide) slices_S8x25x1024_o5_0_0_S1x25x1024 inb_S8x10x25x25_S1x1x25x25_5_6_0_0,
    piece x 5 5 (by decide) (by decide) slices_S8x25x1024_o5_0_0_S1x25x1024 inb_S8x10x25x25_S1x1x25x25_5_5_0_0,
    piece x 5 4 (by decide) (by decide) slices_S8x25x1024_o5_0_0_S1x25x1024 inb_S8x10x25x25_S1x1x25x25_5_4_0_0,
    piece x 5 3 (by decide) (by decide) slices_S8x25x1024_o5_0_0_S1x25x1024 inb_S8x10x25x25_S1x1x25x25_5_3_0_0,
    piece x 5 2 (by decide) (by decide) slices_S8x25x1024_o5_0_0_S1x25x1024 inb_S8x10x25x25_S1x1x25x25_5_2_0_0,
    piece x 5 1 (by decide) (by decide) slices_S8x25x1024_o5_0_0_S1x25x1024 inb_S8x10x25x25_S1x1x25x25_5_1_0_0,
    piece x 4 9 (by decide) (by decide) slices_S8x25x1024_o4_0_0_S1x25x1024 inb_S8x10x25x25_S1x1x25x25_4_9_0_0,
    piece x 4 8 (by decide) (by decide) slices_S8x25x1024_o4_0_0_S1x25x1024 inb_S8x10x25x25_S1x1x25x25_4_8_0_0,
    piece x 4 7 (by decide) (by decide) slices_S8x25x1024_o4_0_0_S1x25x1024 inb_S8x10x25x25_S1x1x25x25_4_7_0_0,
    piece x 4 6 (by decide) (by decide) slices_S8x25x1024_o4_0_0_S1x25x1024 inb_S8x10x25x25_S1x1x25x25_4_6_0_0,
    piece x 4 5 (by decide) (by decide) slices_S8x25x1024_o4_0_0_S1x25x1024 inb_S8x10x25x25_S1x1x25x25_4_5_0_0,
    piece x 4 4 (by decide) (by decide) slices_S8x25x1024_o4_0_0_S1x25x1024 inb_S8x10x25x25_S1x1x25x25_4_4_0_0,
    piece x 4 3 (by decide) (by decide) slices_S8x25x1024_o4_0_0_S1x25x1024 inb_S8x10x25x25_S1x1x25x25_4_3_0_0,
    piece x 4 2 (by decide) (by decide) slices_S8x25x1024_o4_0_0_S1x25x1024 inb_S8x10x25x25_S1x1x25x25_4_2_0_0,
    piece x 4 1 (by decide) (by decide) slices_S8x25x1024_o4_0_0_S1x25x1024 inb_S8x10x25x25_S1x1x25x25_4_1_0_0,
    piece x 3 9 (by decide) (by decide) slices_S8x25x1024_o3_0_0_S1x25x1024 inb_S8x10x25x25_S1x1x25x25_3_9_0_0,
    piece x 3 8 (by decide) (by decide) slices_S8x25x1024_o3_0_0_S1x25x1024 inb_S8x10x25x25_S1x1x25x25_3_8_0_0,
    piece x 3 7 (by decide) (by decide) slices_S8x25x1024_o3_0_0_S1x25x1024 inb_S8x10x25x25_S1x1x25x25_3_7_0_0,
    piece x 3 6 (by decide) (by decide) slices_S8x25x1024_o3_0_0_S1x25x1024 inb_S8x10x25x25_S1x1x25x25_3_6_0_0,
    piece x 3 5 (by decide) (by decide) slices_S8x25x1024_o3_0_0_S1x25x1024 inb_S8x10x25x25_S1x1x25x25_3_5_0_0,
    piece x 3 4 (by decide) (by decide) slices_S8x25x1024_o3_0_0_S1x25x1024 inb_S8x10x25x25_S1x1x25x25_3_4_0_0,
    piece x 3 3 (by decide) (by decide) slices_S8x25x1024_o3_0_0_S1x25x1024 inb_S8x10x25x25_S1x1x25x25_3_3_0_0,
    piece x 3 2 (by decide) (by decide) slices_S8x25x1024_o3_0_0_S1x25x1024 inb_S8x10x25x25_S1x1x25x25_3_2_0_0,
    piece x 3 1 (by decide) (by decide) slices_S8x25x1024_o3_0_0_S1x25x1024 inb_S8x10x25x25_S1x1x25x25_3_1_0_0,
    piece x 2 9 (by decide) (by decide) slices_S8x25x1024_o2_0_0_S1x25x1024 inb_S8x10x25x25_S1x1x25x25_2_9_0_0,
    piece x 2 8 (by decide) (by decide) slices_S8x25x1024_o2_0_0_S1x25x1024 inb_S8x10x25x25_S1x1x25x25_2_8_0_0,
    piece x 2 7 (by decide) (by decide) slices_S8x25x1024_o2_0_0_S1x25x1024 inb_S8x10x25x25_S1x1x25x25_2_7_0_0,
    piece x 2 6 (by decide) (by decide) slices_S8x25x1024_o2_0_0_S1x25x1024 inb_S8x10x25x25_S1x1x25x25_2_6_0_0,
    piece x 2 5 (by decide) (by decide) slices_S8x25x1024_o2_0_0_S1x25x1024 inb_S8x10x25x25_S1x1x25x25_2_5_0_0,
    piece x 2 4 (by decide) (by decide) slices_S8x25x1024_o2_0_0_S1x25x1024 inb_S8x10x25x25_S1x1x25x25_2_4_0_0,
    piece x 2 3 (by decide) (by decide) slices_S8x25x1024_o2_0_0_S1x25x1024 inb_S8x10x25x25_S1x1x25x25_2_3_0_0,
    piece x 2 2 (by decide) (by decide) slices_S8x25x1024_o2_0_0_S1x25x1024 inb_S8x10x25x25_S1x1x25x25_2_2_0_0,
    piece x 2 1 (by decide) (by decide) slices_S8x25x1024_o2_0_0_S1x25x1024 inb_S8x10x25x25_S1x1x25x25_2_1_0_0,
    piece x 1 9 (by decide) (by decide) slices_S8x25x1024_o1_0_0_S1x25x1024 inb_S8x10x25x25_S1x1x25x25_1_9_0_0,
    piece x 1 8 (by decide) (by decide) slices_S8x25x1024_o1_0_0_S1x25x1024 inb_S8x10x25x25_S1x1x25x25_1_8_0_0,
    piece x 1 7 (by decide) (by decide) slices_S8x25x1024_o1_0_0_S1x25x1024 inb_S8x10x25x25_S1x1x25x25_1_7_0_0,
    piece x 1 6 (by decide) (by decide) slices_S8x25x1024_o1_0_0_S1x25x1024 inb_S8x10x25x25_S1x1x25x25_1_6_0_0,
    piece x 1 5 (by decide) (by decide) slices_S8x25x1024_o1_0_0_S1x25x1024 inb_S8x10x25x25_S1x1x25x25_1_5_0_0,
    piece x 1 4 (by decide) (by decide) slices_S8x25x1024_o1_0_0_S1x25x1024 inb_S8x10x25x25_S1x1x25x25_1_4_0_0,
    piece x 1 3 (by decide) (by decide) slices_S8x25x1024_o1_0_0_S1x25x1024 inb_S8x10x25x25_S1x1x25x25_1_3_0_0,
    piece x 1 2 (by decide) (by decide) slices_S8x25x1024_o1_0_0_S1x25x1024 inb_S8x10x25x25_S1x1x25x25_1_2_0_0,
    piece x 1 1 (by decide) (by decide) slices_S8x25x1024_o1_0_0_S1x25x1024 inb_S8x10x25x25_S1x1x25x25_1_1_0_0,
    piece x 0 9 (by decide) (by decide) slices_S8x25x1024_o0_0_0_S1x25x1024 inb_S8x10x25x25_S1x1x25x25_0_9_0_0,
    piece x 0 8 (by decide) (by decide) slices_S8x25x1024_o0_0_0_S1x25x1024 inb_S8x10x25x25_S1x1x25x25_0_8_0_0,
    piece x 0 7 (by decide) (by decide) slices_S8x25x1024_o0_0_0_S1x25x1024 inb_S8x10x25x25_S1x1x25x25_0_7_0_0,
    piece x 0 6 (by decide) (by decide) slices_S8x25x1024_o0_0_0_S1x25x1024 inb_S8x10x25x25_S1x1x25x25_0_6_0_0,
    piece x 0 5 (by decide) (by decide) slices_S8x25x1024_o0_0_0_S1x25x1024 inb_S8x10x25x25_S1x1x25x25_0_5_0_0,
    piece x 0 4 (by decide) (by decide) slices_S8x25x1024_o0_0_0_S1x25x1024 inb_S8x10x25x25_S1x1x25x25_0_4_0_0,
    piece x 0 3 (by decide) (by decide) slices_S8x25x1024_o0_0_0_S1x25x1024 inb_S8x10x25x25_S1x1x25x25_0_3_0_0,
    piece x 0 2 (by decide) (by decide) slices_S8x25x1024_o0_0_0_S1x25x1024 inb_S8x10x25x25_S1x1x25x25_0_2_0_0,
    piece x 0 1 (by decide) (by decide) slices_S8x25x1024_o0_0_0_S1x25x1024 inb_S8x10x25x25_S1x1x25x25_0_1_0_0,
    fill x inb_S8x10x25x25_S8x1x25x25_0_0_0_0, trivial⟩
  · exact View.cover_of_tiledBy _ ![1, 1, 25, 25] (by sl_kernel_rfl) y

/-- The phase of channel `c` at one point with coordinates `a`, `b`, `d`. -/
def point (c : Fin 10) (a b d : EReal) : EReal :=
  phase (fun _ => a) (fun _ => b) (fun _ => d) c (ix3 0 0 0)

/-- The body's phases are computed point by point. -/
theorem phase_apply (p0 p1 p2 : FVec Ideal S8x1x25x1024 .f32) (c : Fin 10) (n : Fin 8) (v : Fin 25) (k : Fin 1024) :
    phase p0 p1 p2 c (ix3 n v k) = point c (p0 (ix4 n 0 v k)) (p1 (ix4 n 0 v k)) (p2 (ix4 n 0 v k)) := by
  have hc : c = 0 ∨ c = 1 ∨ c = 2 ∨ c = 3 ∨ c = 4 ∨ c = 5 ∨ c = 6 ∨ c = 7 ∨ c = 8 ∨ c = 9 := by omega
  unfold point
  rcases hc with rfl | rfl | rfl | rfl | rfl | rfl | rfl | rfl | rfl | rfl <;>
    dsimp only [phase] <;> unfold_payloads <;> pointwise

/-- The result of the launch: per member, channel and pair of joints the sum over time of the products of the phases. -/
def result (x : FVec Ideal S256x3x1024x25 .f32) : FVec Ideal S256x10x25x25 .f32 := fun i =>
  ∑ k : Fin 1024,
    point (i 1) (x (ix4 (i 0) 0 k (i 2))) (x (ix4 (i 0) 1 k (i 2))) (x (ix4 (i 0) 2 k (i 2)))
      * point (i 1) (x (ix4 (i 0) 0 k (i 3))) (x (ix4 (i 0) 1 k (i 3))) (x (ix4 (i 0) 2 k (i 3)))

/-- The array that the blocks are cut from is the argument with its last two axes exchanged. -/
theorem entry (c : Dev nD) : V m c main_v0
    = transpose S256x3x25x1024 [0, 1, 3, 2] (m ((c : Thread nD τ).loc main_arg0)) transposes_S256x3x1024x25_S256x3x25x1024_0_1_3_2 := by
  rfl

/-- Step `t` reads and writes the blocks of index `t` on the first axis. -/
theorem idx : ∀ t : Fin cfg0.N, win0_0.index t = ![t.val, 0, 0, 0] ∧ win0_1.index t = ![t.val, 0, 0, 0] := by
  decide +kernel

/-- Block `t` of the input at an index, read off the argument. -/
theorem block (c : Dev nD) (t : Fin cfg0.N) (n : Fin 8) (a : Fin 3) (v : Fin 25) (k : Fin 1024) (h : t.val * 8 + n.val < 256) :
    iblk m c 0 t (ix4 n a v k) = m ((c : Thread nD τ).loc main_arg0) (ix4 (⟨t.val * 8 + n.val, h⟩ : Fin 256) a k v) := by
  have e : ((cfg0.win 0).blk t).view.emb (ix4 n a v k) = ix4 (⟨t.val * 8 + n.val, h⟩ : Fin 256) a v k := by
    blk_ext [idx t]
  show V m c main_v0 (((cfg0.win 0).blk t).view.emb (ix4 n a v k)) = _
  rw [entry, e]
  pointwise

/-- The result array after the launch. -/
theorem array (c : Dev nD) : (dats m 0 c).arrAt 1 cfg0.N = result (m ((c : Thread nD τ).loc main_arg0)) := by
  refine (dats m 0 c).arrAt_eq_of_covers 1 _ (by decide +kernel) fun t hf y => ?_
  blk_simp
  rw [after0_1, outsAt0, out_block]
  have ht : t.val < 32 := t.isLt
  obtain ⟨n, a, v, w, rfl⟩ : ∃ (n : Fin 8) (a : Fin 10) (v : Fin 25) (w : Fin 25), y = ix4 n a v w := ⟨y 0, y 1, y 2, y 3, eq_ix4 y⟩
  have hn : t.val * 8 + n.val < 256 := by omega
  have e : (win0_1.blk t).view.emb (ix4 n a v w) = ix4 (⟨t.val * 8 + n.val, hn⟩ : Fin 256) a v w := by
    blk_ext [idx t]
  rw [e]
  show ∑ k : Fin 1024, phase _ _ _ a (ix3 n v k) * phase _ _ _ a (ix3 n w k) = _
  refine Finset.sum_congr rfl fun k _ => ?_
  rw [phase_apply, phase_apply]
  have P : ∀ j : Fin 25, point a (iblk m c 0 t (ix4 n 0 j k)) (iblk m c 0 t (ix4 n 1 j k)) (iblk m c 0 t (ix4 n 2 j k))
      = point a (m ((c : Thread nD τ).loc main_arg0) (ix4 (⟨t.val * 8 + n.val, hn⟩ : Fin 256) 0 k j))
        (m ((c : Thread nD τ).loc main_arg0) (ix4 (⟨t.val * 8 + n.val, hn⟩ : Fin 256) 1 k j))
        (m ((c : Thread nD τ).loc main_arg0) (ix4 (⟨t.val * 8 + n.val, hn⟩ : Fin 256) 2 k j)) := fun j => by
    rw [block m c t n 0 j k hn, block m c t n 1 j k hn, block m c t n 2 j k hn]
  exact congrArg₂ (· * ·) (P v) (P w)

end Cert.ArctanIdeal.Own

end
-- ==== Proof.Angle.lean ====
module

public import Idealize.ShloMosaic.PureOps.Ideal
public import Mathlib.Analysis.SpecialFunctions.Complex.Arg
public import Mathlib.Analysis.SpecialFunctions.Trigonometric.Arctan

/-! # The angle of a point in the plane

Its values on points in polar coordinates, and the kernel's way to it from the arctangent on `[0, 1]`. -/

@[expose] public section

noncomputable section

namespace Cert.Own

open Idealize.ShloMosaic Real

/-- The angle of the point `(x, y)`, in `(-π, π]`; 0 at the origin. -/
def angle (y x : ℝ) : ℝ :=
  if 0 < x then arctan (y / x)
  else if x < 0 then (if 0 ≤ y then arctan (y / x) + π else arctan (y / x) - π)
  else if 0 < y then π / 2 else if y < 0 then -(π / 2) else 0

/-- The two-argument arctangent of real numbers is the angle. -/
theorem atan2_coe (y x : ℝ) : Ideal.atan2 (y : EReal) (x : EReal) = ((angle y x : ℝ) : EReal) := rfl

/-- The origin has the angle 0. -/
theorem angle_origin : angle 0 0 = 0 := by simp [angle]

/-- The angle of a point given in polar coordinates. -/
theorem angle_polar {a t : ℝ} (ha : 0 < a) (h1 : -π < t) (h2 : t ≤ π) : angle (a * sin t) (a * cos t) = t := by
  have hq : cos t ≠ 0 → a * sin t / (a * cos t) = tan t := fun h => by
    rw [tan_eq_sin_div_cos]; field_simp
  have hp := pi_pos
  rcases lt_trichotomy t (-(π / 2)) with h | h | h
  · have hc : cos t < 0 := by
      rw [← cos_neg]; exact cos_neg_of_pi_div_two_lt_of_lt (by linarith) (by linarith)
    have hs : sin t < 0 := sin_neg_of_neg_of_neg_pi_lt (by linarith) h1
    have e1 : ¬ 0 < a * cos t := by have := mul_neg_of_pos_of_neg ha hc; linarith
    have e2 : a * cos t < 0 := mul_neg_of_pos_of_neg ha hc
    have e3 : ¬ 0 ≤ a * sin t := by have := mul_neg_of_pos_of_neg ha hs; linarith
    rw [angle, if_neg e1, if_pos e2, if_neg e3, hq hc.ne, ← tan_add_pi, arctan_tan (by linarith) (by linarith)]
    ring
  · subst h
    simp [angle, ha, ha.le]
  · rcases lt_trichotomy t (π / 2) with h' | h' | h'
    · have hc : 0 < cos t := cos_pos_of_mem_Ioo ⟨h, h'⟩
      rw [angle, if_pos (mul_pos ha hc), hq hc.ne', arctan_tan h h']
    · subst h'
      simp [angle, ha]
    · have hc : cos t < 0 := cos_neg_of_pi_div_two_lt_of_lt h' (by linarith)
      have hs : 0 ≤ sin t := sin_nonneg_of_nonneg_of_le_pi (by linarith) h2
      have e2 : a * cos t < 0 := mul_neg_of_pos_of_neg ha hc
      rw [angle, if_neg (by linarith), if_pos e2, if_pos (mul_nonneg ha.le hs), hq hc.ne, ← tan_sub_pi,
        arctan_tan (by linarith) (by linarith)]
      ring

/-- The angle of a point other than the origin is in `(-π, π]`, and its cosine and sine are the coordinates over the distance. -/
theorem angle_spec {x y : ℝ} (h : ¬ (x = 0 ∧ y = 0)) :
    ∃ r : ℝ, 0 < r ∧ r * r = x * x + y * y ∧ r * cos (angle y x) = x ∧ r * sin (angle y x) = y
      ∧ -π < angle y x ∧ angle y x ≤ π := by
  set z : ℂ := ⟨x, y⟩ with hz
  have hz0 : z ≠ 0 := fun e => h ⟨congrArg Complex.re e, congrArg Complex.im e⟩
  have hr : 0 < ‖z‖ := norm_pos_iff.mpr hz0
  have hc : ‖z‖ * cos z.arg = x := Complex.norm_mul_cos_arg z
  have hs : ‖z‖ * sin z.arg = y := Complex.norm_mul_sin_arg z
  have ha : angle y x = z.arg := by
    conv_lhs => rw [← hc, ← hs]
    exact angle_polar hr (Complex.neg_pi_lt_arg z) (Complex.arg_le_pi z)
  refine ⟨‖z‖, hr, ?_, by rw [ha, hc], by rw [ha, hs], ?_, ?_⟩
  · have := Complex.normSq_eq_norm_sq z
    rw [Complex.normSq_mk] at this
    linarith [sq ‖z‖]
  · rw [ha]; exact Complex.neg_pi_lt_arg z
  · rw [ha]; exact Complex.arg_le_pi z

/-- The angle of `a·(cos u, sin u)` when `u` lies past π, or `a` is negative. -/
theorem angle_polar_wrap {a u : ℝ} (ha : 0 < a) (h1 : π < u) (h2 : u ≤ 3 * π) : angle (a * sin u) (a * cos u) = u - 2 * π := by
  rw [← sin_sub_two_pi, ← cos_sub_two_pi]
  exact angle_polar ha (by linarith) (by linarith)
/-- The angle of `a·(cos u, sin u)` for a negative `a` lies half a turn back. -/
theorem angle_polar_neg {a u : ℝ} (ha : a < 0) (h1 : 0 < u) (h2 : u ≤ 2 * π) : angle (a * sin u) (a * cos u) = u - π := by
  have e1 : a * sin u = -a * sin (u - π) := by rw [sin_sub_pi]; ring
  have e2 : a * cos u = -a * cos (u - π) := by rw [cos_sub_pi]; ring
  rw [e1, e2]
  exact angle_polar (by linarith) (by linarith) (by linarith)
/-- For a negative `a` and `u` past 2π it lies one and a half turns back. -/
theorem angle_polar_neg_wrap {a u : ℝ} (ha : a < 0) (h1 : 2 * π < u) (h2 : u ≤ 4 * π) : angle (a * sin u) (a * cos u) = u - 3 * π := by
  rw [← sin_sub_two_pi, ← cos_sub_two_pi, angle_polar_neg ha (by linarith) (by linarith)]
  ring

/-- An angle in the upper half plane, folded to the first octant: `A` stands for the arctangent on `[0, 1]`. -/
def fold (A : ℝ → ℝ) (s c : ℝ) : ℝ :=
  if 0 ≤ c then (if s ≤ |c| then A (min s |c| / max s |c|) else 2⁻¹ * π - A (min s |c| / max s |c|))
  else π - (if s ≤ |c| then A (min s |c| / max s |c|) else 2⁻¹ * π - A (min s |c| / max s |c|))

/-- With the arctangent itself the folded angle is the angle. -/
theorem fold_arctan {s c : ℝ} (hs : 0 < s) : fold arctan s c = angle s c := by
  rcases lt_trichotomy c 0 with h | h | h
  · rw [fold, if_neg (not_le.mpr h), angle, if_neg (not_lt.mpr h.le), if_pos h, if_pos hs.le, abs_of_neg h]
    have e : arctan (s / c) = -arctan (s / -c) := by rw [← arctan_neg]; congr 1; field_simp
    split_ifs with h1
    · rw [min_eq_left h1, max_eq_right h1, e]; ring
    · rw [min_eq_right (by linarith), max_eq_left (by linarith), e]
      have := arctan_inv_of_pos (x := -c / s) (by apply div_pos <;> linarith)
      rw [inv_div] at this
      rw [this]; ring
  · subst h
    simp [fold, angle, hs, hs.not_ge, hs.le]
    ring
  · rw [fold, if_pos h.le, angle, if_pos h, abs_of_pos h]
    split_ifs with h1
    · rw [min_eq_left h1, max_eq_right h1]
    · rw [min_eq_right (by linarith), max_eq_left (by linarith)]
      have := arctan_inv_of_pos (x := c / s) (div_pos h hs)
      rw [inv_div] at this
      rw [this]; ring

end Cert.Own

end
-- ==== Proof.Phase.lean ====
module

public import proofs.«01_k».proof.Proof.Angle

/-! # The phases of the harmonics

`harmonic` is the reference's phase of a channel, `fast` the kernel's. They agree up to a sign `flip` that depends on the
channel alone. -/

@[expose] public section

noncomputable section

namespace Cert.Own

open Real

/-- An angle of at most 3π brought below π. -/
def wrap (a : ℝ) : ℝ := if π < a then a - 2 * π else a

/-- The kernel's phase of each channel, from the polar angle `t` of the point `(c, s)` and the horizontal coordinates `x`, `y`. -/
def fast (t s c x y : ℝ) : Fin 10 → ℝ
  | 0 => 0
  | 1 => if x < 0 then -π else 0
  | 2 => t - π
  | 3 => if 2 * (x * x) < y * y then -π else 0
  | 4 => if 0 < x then t - π else t
  | 5 => wrap (2 * t)
  | 6 => if 0 < x then (if 2 * (x * x) < 3 * (y * y) then -π else 0) else (if 3 * (y * y) < 2 * (x * x) then -π else 0)
  | 7 => if y * y < 4 * (x * x) then t - π else t
  | 8 => if x < 0 then wrap (2 * t) - (if 0 ≤ c then π else -π) else wrap (2 * t)
  | 9 => wrap (3 * t) - (if s * s ≤ 3 * c * c then π else -π)

/-- The order m of each channel. -/
def order : Fin 10 → ℝ
  | 0 => 0
  | 1 => 0
  | 2 => 1
  | 3 => 0
  | 4 => 1
  | 5 => 2
  | 6 => 0
  | 7 => 1
  | 8 => 2
  | 9 => 3

/-- The associated Legendre functions at the cosine `c`, with `s` for the sine. -/
def legendre (c s : ℝ) : Fin 10 → ℝ
  | 0 => 1
  | 1 => c
  | 2 => -s
  | 3 => 2⁻¹ * (3 * c * c - 1)
  | 4 => -3 * c * s
  | 5 => 3 * (1 - c * c)
  | 6 => 2⁻¹ * c * (5 * c * c - 3)
  | 7 => -(3 / 2) * (5 * c * c - 1) * s
  | 8 => 15 * c * (1 - c * c)
  | 9 => -15 * s * s * s

/-- The phase of a spherical harmonic with the norm `n`. -/
def harmonic (n t c s : ℝ) (k : Fin 10) : ℝ :=
  angle (n * legendre c s k * sin (order k * t)) (n * legendre c s k * cos (order k * t))

/-- The channels of order 0, whose phase the kernel takes with the other sign. -/
def flip : Fin 10 → ℝ
  | 0 => 1
  | 1 => -1
  | 2 => 1
  | 3 => -1
  | 4 => 1
  | 5 => 1
  | 6 => -1
  | 7 => 1
  | 8 => 1
  | 9 => 1

/-- The square of a channel's sign is 1. -/
theorem flip_mul (k : Fin 10) : flip k * flip k = 1 := by
  have hk : k = 0 ∨ k = 1 ∨ k = 2 ∨ k = 3 ∨ k = 4 ∨ k = 5 ∨ k = 6 ∨ k = 7 ∨ k = 8 ∨ k = 9 := by omega
  rcases hk with rfl | rfl | rfl | rfl | rfl | rfl | rfl | rfl | rfl | rfl <;> norm_num [flip]

/-- The phase of a real number. -/
theorem angle_real (a : ℝ) : angle 0 a = if a < 0 then π else 0 := by
  unfold angle
  rcases lt_trichotomy a 0 with h | h | h
  · simp [h, h.not_gt]
  · simp [h]
  · simp [h, h.not_gt]

/-- The phases of order 0 are those of a real number. -/
theorem harmonic_real (n t c s : ℝ) (k : Fin 10) (hk : order k = 0) :
    harmonic n t c s k = if n * legendre c s k < 0 then π else 0 := by
  unfold harmonic
  rw [hk, zero_mul, sin_zero, cos_zero, mul_zero, mul_one, angle_real]

/-- The cosine of the angle of the origin is 1. -/
theorem cos_origin : cos (angle 0 0) = 1 := by rw [angle_origin, cos_zero]

/-- The cosine of the azimuth has the sign of the coordinate that it belongs to. -/
theorem cos_neg_iff (x y : ℝ) : cos (angle y x) < 0 ↔ x < 0 := by
  by_cases h : x = 0 ∧ y = 0
  · obtain ⟨rfl, rfl⟩ := h
    rw [cos_origin]; norm_num
  · obtain ⟨r, hr, -, hx, -⟩ := angle_spec h
    constructor
    · intro h; rw [← hx]; exact mul_neg_of_pos_of_neg hr h
    · intro h; rw [← hx] at h; exact neg_of_mul_neg_right h hr.le

/-- The cosine is positive where the first coordinate is. -/
theorem cos_pos (x y : ℝ) (h : 0 < x) : 0 < cos (angle y x) := by
  obtain ⟨r, hr, -, hx, -⟩ := angle_spec (x := x) (y := y) (fun e => h.ne' e.1)
  rw [← hx] at h
  exact pos_of_mul_pos_right h hr.le

/-- The square of the azimuth's cosine, away from the origin. -/
theorem cos_sq (x y : ℝ) (h : ¬ (x = 0 ∧ y = 0)) :
    ∃ q : ℝ, 0 < q ∧ q * (cos (angle y x) * cos (angle y x)) = x * x ∧ q = x * x + y * y := by
  obtain ⟨r, hr, hq, hx, -⟩ := angle_spec h
  refine ⟨r * r, mul_pos hr hr, ?_, hq⟩
  conv_rhs => rw [← hx]
  ring

/-- Equivalent conditions choose opposite values. -/
theorem ite_flip {p q : Prop} [Decidable p] [Decidable q] (h : p ↔ q) : (if p then -π else 0) = -1 * (if q then π else 0) := by
  by_cases hq : q
  · rw [if_pos (h.mpr hq), if_pos hq]; ring
  · rw [if_neg (fun hp => hq (h.mp hp)), if_neg hq]; ring

/-- The kernel's phases of order 0 are the spherical harmonics' with the other sign. -/
theorem fast_real {n s x y t r u v : ℝ} (hn : 0 < n) (k : Fin 10) (hk : k = 0 ∨ k = 1 ∨ k = 3 ∨ k = 6) :
    fast r u v x y k = flip k * harmonic n t (cos (angle y x)) s k := by
  have ho : order k = 0 := by rcases hk with rfl | rfl | rfl | rfl <;> rfl
  have hl : ∀ a : ℝ, n * a < 0 ↔ a < 0 := fun a =>
    ⟨fun h => neg_of_mul_neg_right h hn.le, fun h => mul_neg_of_pos_of_neg hn h⟩
  rw [harmonic_real _ _ _ _ _ ho]
  simp only [hl]
  rcases hk with rfl | rfl | rfl | rfl <;> simp only [fast, flip, legendre]
  · norm_num
  · exact ite_flip (cos_neg_iff x y).symm
  · by_cases h : x = 0 ∧ y = 0
    · obtain ⟨rfl, rfl⟩ := h
      rw [cos_origin]; norm_num
    obtain ⟨q, hq, hc, hs⟩ := cos_sq x y h
    generalize cos (angle y x) = c at *
    have : 2 * (x * x) < y * y ↔ 2⁻¹ * (3 * c * c - 1) < 0 := by
      constructor
      · intro h
        have : q * (3 * c * c - 1) < 0 := by nlinarith
        have := neg_of_mul_neg_right this hq.le
        linarith
      · intro h
        have : q * (3 * c * c - 1) < 0 := mul_neg_of_pos_of_neg hq (by linarith)
        nlinarith
    exact ite_flip this
  · by_cases h : x = 0 ∧ y = 0
    · obtain ⟨rfl, rfl⟩ := h
      rw [cos_origin]; norm_num
    obtain ⟨q, hq, hc, hs⟩ := cos_sq x y h
    have hpos := cos_pos x y
    have hneg := cos_neg_iff x y
    have hzero : x = 0 → cos (angle y x) = 0 := fun e => by
      rw [e] at hc ⊢
      have : cos (angle y 0) * cos (angle y 0) = 0 := by
        have : q * (cos (angle y 0) * cos (angle y 0)) = 0 := by rw [hc]; ring
        exact (mul_eq_zero.mp this).resolve_left hq.ne'
      exact mul_self_eq_zero.mp this
    generalize cos (angle y x) = c at *
    have e : q * (5 * c * c - 3) = 2 * (x * x) - 3 * (y * y) := by linear_combination 5 * hc - 3 * hs
    rcases lt_trichotomy x 0 with hx | hx | hx
    · have hc' : c < 0 := hneg.mpr hx
      have : 3 * (y * y) < 2 * (x * x) ↔ 2⁻¹ * c * (5 * c * c - 3) < 0 := by
        constructor
        · intro h
          have : 0 < q * (5 * c * c - 3) := by linarith
          have := pos_of_mul_pos_right this hq.le
          exact mul_neg_of_neg_of_pos (by linarith) this
        · intro h
          have : 0 < 5 * c * c - 3 := by
            by_contra hh
            have := mul_nonneg_of_nonpos_of_nonpos (a := 2⁻¹ * c) (by linarith) (not_lt.mp hh)
            linarith
          have := mul_pos hq this
          linarith
      rw [if_neg hx.not_gt]
      exact ite_flip this
    · rw [hzero hx, hx]
      have : ¬ 3 * (y * y) < 2 * ((0 : ℝ) * 0) := by nlinarith [mul_self_nonneg y]
      rw [if_neg (lt_irrefl 0), if_neg this]
      norm_num
    · have hc' : 0 < c := hpos hx
      have : 2 * (x * x) < 3 * (y * y) ↔ 2⁻¹ * c * (5 * c * c - 3) < 0 := by
        constructor
        · intro h
          have : q * (5 * c * c - 3) < 0 := by linarith
          have := neg_of_mul_neg_right this hq.le
          exact mul_neg_of_pos_of_neg (by linarith) this
        · intro h
          have : 5 * c * c - 3 < 0 := by
            by_contra hh
            have := mul_nonneg (a := 2⁻¹ * c) (by linarith) (not_lt.mp hh)
            linarith
          have := mul_neg_of_pos_of_neg hq this
          linarith
      rw [if_pos hx]
      exact ite_flip this

/-- A polar angle of a point in the upper half plane, with its sine and cosine. -/
theorem polar {s c : ℝ} (hs : 0 < s) : ∃ r : ℝ, 0 < r ∧ r * cos (angle s c) = c ∧ r * sin (angle s c) = s
    ∧ 0 < angle s c ∧ angle s c < π := by
  obtain ⟨r, hr, -, hc, hsn, h1, h2⟩ := angle_spec (x := c) (y := s) (fun e => hs.ne' e.2)
  have h3 : 0 < sin (angle s c) := by rw [← hsn] at hs; exact pos_of_mul_pos_right hs hr.le
  refine ⟨r, hr, hc, hsn, ?_, ?_⟩
  · by_contra h
    exact absurd h3 (not_lt.mpr (sin_nonpos_of_nonpos_of_neg_pi_le (not_lt.mp h) h1.le))
  · refine lt_of_le_of_ne h2 fun e => ?_
    rw [e, sin_pi] at h3
    exact lt_irrefl _ h3

/-- The quadrant and the third of the half circle that a polar angle lies in. -/
theorem angle_le_half {s c : ℝ} (hs : 0 < s) : angle s c ≤ π / 2 ↔ 0 ≤ c := by
  obtain ⟨r, hr, hc, -, h1, h2⟩ := polar (c := c) hs
  constructor
  · intro h
    rw [← hc]
    exact mul_nonneg hr.le (cos_nonneg_of_neg_pi_div_two_le_of_le (by linarith) h)
  · intro h
    by_contra hh
    have := cos_neg_of_pi_div_two_lt_of_lt (not_le.mp hh) (by linarith)
    rw [← hc] at h
    exact absurd h (not_le.mpr (mul_neg_of_pos_of_neg hr this))

/-- `sin 3t` has the sign of `3·sin² − 4·sin⁴`, so `3·c² − s²` says which third the angle lies in. -/
theorem third {s c : ℝ} (hs : 0 < s) :
    (s * s ≤ 3 * c * c ↔ angle s c ≤ π / 3 ∨ 2 * π / 3 ≤ angle s c) ∧ (s * s = 3 * c * c ↔ angle s c = π / 3 ∨ angle s c = 2 * π / 3) := by
  obtain ⟨r, hr, hc, hsn, h1, h2⟩ := polar (c := c) hs
  set t := angle s c with ht
  have hp := pi_pos
  have e : 3 * c * c - s * s = r * r * (4 * (cos t * cos t) - 1) := by
    conv_lhs => rw [← hc, ← hsn]
    linear_combination -(r * r) * sin_sq_add_cos_sq t
  have hrr := mul_pos hr hr
  have k1 : cos (π / 3) = 1 / 2 := cos_pi_div_three
  have k2 : cos (2 * π / 3) = -(1 / 2) := by
    rw [show 2 * π / 3 = π - π / 3 by ring, cos_pi_sub, k1]
  have anti := strictAntiOn_cos
  have mt : t ∈ Set.Icc 0 π := ⟨h1.le, h2.le⟩
  have m1 : π / 3 ∈ Set.Icc 0 π := ⟨by linarith, by linarith⟩
  have m2 : 2 * π / 3 ∈ Set.Icc 0 π := ⟨by linarith, by linarith⟩
  have a1 : t ≤ π / 3 ↔ 1 / 2 ≤ cos t := by rw [← k1]; exact (anti.le_iff_ge m1 mt).symm
  have a2 : 2 * π / 3 ≤ t ↔ cos t ≤ -(1 / 2) := by rw [← k2]; exact (anti.le_iff_ge mt m2).symm
  have b1 : t = π / 3 ↔ cos t = 1 / 2 := by rw [← k1]; exact ⟨fun h => by rw [h], fun h => anti.injOn mt m1 h⟩
  have b2 : t = 2 * π / 3 ↔ cos t = -(1 / 2) := by rw [← k2]; exact ⟨fun h => by rw [h], fun h => anti.injOn mt m2 h⟩
  rw [a1, a2, b1, b2]
  generalize cos t = w at *
  constructor
  · constructor
    · intro h
      have : 0 ≤ 4 * (w * w) - 1 := by
        by_contra hh
        have := mul_neg_of_pos_of_neg hrr (not_le.mp hh)
        linarith
      by_contra hh
      push Not at hh
      nlinarith
    · intro h
      have : 0 ≤ 4 * (w * w) - 1 := by rcases h with h | h <;> nlinarith
      have := mul_nonneg hrr.le this
      linarith
  · constructor
    · intro h
      have : r * r * (4 * (w * w) - 1) = 0 := by linarith
      have := (mul_eq_zero.mp this).resolve_left hrr.ne'
      have : (w - 1 / 2) * (w + 1 / 2) = 0 := by linear_combination this / 4
      rcases mul_eq_zero.mp this with h | h
      · left; linarith
      · right; linarith
    · intro h
      have : 4 * (w * w) - 1 = 0 := by rcases h with h | h <;> rw [h] <;> norm_num
      rw [this, mul_zero] at e
      linarith

/-- The kernel's phases are those of the spherical harmonics, up to the sign of the phases of order 0, away from the ties. -/
theorem fast_eq {n σ s c x y : ℝ} (hn : 0 < n) (hσ : 0 < σ) (hs : 0 < s) (hx : x ≠ 0) (hy : y ≠ 0) (h4 : 4 * (x * x) ≠ y * y)
    (h3 : 0 ≤ c ∨ 3 * (c * c) ≠ s * s) (k : Fin 10) :
    fast (angle s c) s c x y k = flip k * harmonic n (angle s c) (cos (angle y x)) σ k := by
  have hk : (k = 0 ∨ k = 1 ∨ k = 3 ∨ k = 6) ∨ k = 2 ∨ k = 4 ∨ k = 5 ∨ k = 7 ∨ k = 8 ∨ k = 9 := by omega
  rcases hk with hk | hk
  · exact fast_real hn k hk
  obtain ⟨-, -, -, -, h1, h2⟩ := polar (c := c) hs
  have hhalf := angle_le_half (c := c) hs
  have hthird := third (c := c) hs
  generalize angle s c = t at *
  obtain ⟨q, hq, hc, hq2⟩ := cos_sq x y (fun e => hx e.1)
  have hpos := cos_pos x y
  have hneg := cos_neg_iff x y
  generalize cos (angle y x) = w at *
  have hp := pi_pos
  have hxx : 0 < x * x := mul_self_pos.mpr hx
  have hyy : 0 < y * y := mul_self_pos.mpr hy
  have hw : 0 < 1 - w * w := by
    have : q * (1 - w * w) = y * y := by linear_combination hq2 - hc
    rw [← this] at hyy
    exact pos_of_mul_pos_right hyy hq.le
  unfold harmonic
  rcases hk with rfl | rfl | rfl | rfl | rfl | rfl <;> simp only [fast, flip, order, legendre, one_mul]
  · rw [angle_polar_neg (by nlinarith) h1 (by linarith)]
  · by_cases hx' : 0 < x
    · rw [if_pos hx', angle_polar_neg _ h1 (by linarith)]
      have := mul_pos (mul_pos hn (hpos hx')) hσ
      linarith
    · rw [if_neg hx', angle_polar _ (by linarith) h2.le]
      have := mul_neg_of_neg_of_pos (mul_neg_of_pos_of_neg hn (hneg.mpr (lt_of_le_of_ne (not_lt.mp hx') hx))) hσ
      linarith
  · unfold wrap
    have hA : 0 < n * (3 * (1 - w * w)) := mul_pos hn (by linarith)
    split_ifs with h
    · rw [angle_polar_wrap hA h (by linarith)]
    · rw [angle_polar hA (by linarith) (by linarith)]
  · have e : q * (5 * w * w - 1) = 4 * (x * x) - y * y := by linear_combination 5 * hc - hq2
    split_ifs with h
    · have : 0 < 5 * w * w - 1 := pos_of_mul_pos_right (a := q) (by linarith) hq.le
      rw [angle_polar_neg _ h1 (by linarith)]
      have := mul_pos (mul_pos hn this) hσ
      linarith
    · have : 5 * w * w - 1 < 0 := neg_of_mul_neg_right (a := q) (by have := lt_of_le_of_ne (not_lt.mp h) h4; linarith) hq.le
      rw [angle_polar _ (by linarith) h2.le]
      have := mul_neg_of_neg_of_pos (mul_neg_of_pos_of_neg hn this) hσ
      linarith
  · by_cases hx' : x < 0
    · have hA : n * (15 * w * (1 - w * w)) < 0 := by
        have := mul_neg_of_neg_of_pos (mul_neg_of_pos_of_neg hn (hneg.mpr hx')) hw
        linarith
      rw [if_pos hx', angle_polar_neg hA (by linarith) (by linarith), wrap]
      by_cases hc0 : 0 ≤ c
      · have := hhalf.mpr hc0
        rw [if_pos hc0, if_neg (by linarith)]
      · have : ¬ t ≤ π / 2 := fun h => hc0 (hhalf.mp h)
        rw [if_neg hc0, if_pos (by linarith)]
        ring
    · have hw0 : 0 < w := hpos (lt_of_le_of_ne (not_lt.mp hx') hx.symm)
      have hA : 0 < n * (15 * w * (1 - w * w)) := mul_pos hn (mul_pos (by linarith) hw)
      rw [if_neg hx', wrap]
      split_ifs with h
      · rw [angle_polar_wrap hA h (by linarith)]
      · rw [angle_polar hA (by linarith) (by linarith)]
  · have hA : n * (-15 * σ * σ * σ) < 0 := by
      have := mul_pos hn (mul_pos (mul_pos hσ hσ) hσ)
      linarith
    have ne : t ≠ 2 * π / 3 := fun e => by
      rcases h3 with h | h
      · have := hhalf.mpr h
        linarith
      · exact h (by have := hthird.2.mpr (Or.inr e); linarith)
    rw [wrap]
    by_cases h : t ≤ π / 3
    · rw [if_neg (by linarith), if_pos (hthird.1.mpr (Or.inl h)), angle_polar_neg hA (by linarith) (by linarith)]
    · rw [if_pos (by linarith)]
      by_cases h' : 2 * π / 3 ≤ t
      · have := lt_of_le_of_ne h' ne.symm
        rw [if_pos (hthird.1.mpr (Or.inr h')), angle_polar_neg_wrap hA (by linarith) (by linarith)]
        ring
      · rw [if_neg (fun hh => by rcases hthird.1.mp hh with g | g; exacts [h g, h' g]), angle_polar_neg hA (by linarith) (by linarith)]
        ring

end Cert.Own

end
-- ==== Proof.Consts.lean ====
module

public import proofs.«01_k».proof.Proof.Phase
public import Idealize.ShloMosaic.Lib.Pointwise

@[expose] public section

noncomputable section

namespace Cert.Own

open Idealize.ShloMosaic

/-! The literals of the programs as real numbers. -/

/-- The offset added to the coordinates, 1e-5 rounded to a float. -/
def eps : ℝ := 2748779 / 274877906944

/-- The floor under the sine's square, 1e-12 rounded to a float. -/
def tiny : ℝ := 2305843 / 2305843009213693952

/-- The norms of the ten spherical harmonics, rounded to floats. -/
def norm : Fin 10 → ℝ
  | 0 => 9465531 / 33554432
  | 1 => 4098695 / 8388608
  | 2 => 2898215 / 8388608
  | 3 => 10582785 / 16777216
  | 4 => 1080101 / 4194304
  | 5 => 1080101 / 8388608
  | 6 => 1565215 / 2097152
  | 7 => 14458837 / 67108864
  | 8 => 9144571 / 134217728
  | 9 => 7466511 / 268435456

/-- The coefficients of the kernel's polynomial, the highest first. -/
def coef : Fin 8 → ℝ
  | 0 => 13277677 / 4294967296
  | 1 => -(9155823 / 536870912)
  | 2 => 11899991 / 268435456
  | 3 => -(641483 / 8388608)
  | 4 => 7187599 / 67108864
  | 5 => -(2386089 / 16777216)
  | 6 => 13418489 / 67108864
  | 7 => -(87381 / 262144)

/-- The literal 1e-5 is positive. -/
theorem eps_pos : 0 < eps := by norm_num [eps]
/-- The literal 1e-12 is positive. -/
theorem tiny_pos : 0 < tiny := by norm_num [tiny]

/-- The norms are positive. -/
theorem norm_pos (k : Fin 10) : 0 < norm k := by
  have hk : k = 0 ∨ k = 1 ∨ k = 2 ∨ k = 3 ∨ k = 4 ∨ k = 5 ∨ k = 6 ∨ k = 7 ∨ k = 8 ∨ k = 9 := by omega
  rcases hk with rfl | rfl | rfl | rfl | rfl | rfl | rfl | rfl | rfl | rfl <;> norm_num [norm]

/-- The literal 2. -/
theorem lit_two : Ideal.ofBits .f32 0x40000000#32 = ((2 : ℝ) : EReal) := by
  simp [Ideal.ofBits, Ideal.ieee, -EReal.coe_mul, -EReal.coe_neg]; norm_num
/-- The literal 3. -/
theorem lit_three : Ideal.ofBits .f32 0x40400000#32 = ((3 : ℝ) : EReal) := by
  simp [Ideal.ofBits, Ideal.ieee, -EReal.coe_mul, -EReal.coe_neg]; norm_num
/-- The literal 4. -/
theorem lit_four : Ideal.ofBits .f32 0x40800000#32 = ((4 : ℝ) : EReal) := by
  simp [Ideal.ofBits, Ideal.ieee, -EReal.coe_mul, -EReal.coe_neg]; norm_num
/-- The literal 5. -/
theorem lit_five : Ideal.ofBits .f32 0x40A00000#32 = ((5 : ℝ) : EReal) := by
  simp [Ideal.ofBits, Ideal.ieee, -EReal.coe_mul, -EReal.coe_neg]; norm_num
/-- The literal 15. -/
theorem lit_fifteen : Ideal.ofBits .f32 0x41700000#32 = ((15 : ℝ) : EReal) := by
  simp [Ideal.ofBits, Ideal.ieee, -EReal.coe_mul, -EReal.coe_neg]; norm_num
/-- The literal 1/2. -/
theorem lit_half : Ideal.ofBits .f32 0x3F000000#32 = ((2⁻¹ : ℝ) : EReal) := by
  simp [Ideal.ofBits, Ideal.ieee, -EReal.coe_mul, -EReal.coe_neg]; norm_num
/-- The literal −3. -/
theorem lit_neg_three : Ideal.ofBits .f32 0xC0400000#32 = ((-3 : ℝ) : EReal) := by
  simp [Ideal.ofBits, Ideal.ieee, -EReal.coe_mul, -EReal.coe_neg]; norm_num
/-- The literal −3/2. -/
theorem lit_neg_three_halves : Ideal.ofBits .f32 0xBFC00000#32 = ((-(3 / 2) : ℝ) : EReal) := by
  simp [Ideal.ofBits, Ideal.ieee, -EReal.coe_mul, -EReal.coe_neg]; norm_num
/-- The literal −15. -/
theorem lit_neg_fifteen : Ideal.ofBits .f32 0xC1700000#32 = ((-15 : ℝ) : EReal) := by
  simp [Ideal.ofBits, Ideal.ieee, -EReal.coe_mul, -EReal.coe_neg]; norm_num
/-- The literal 1e-5. -/
theorem lit_eps : Ideal.ofBits .f32 0x3727C5AC#32 = ((eps : ℝ) : EReal) := by
  simp [Ideal.ofBits, Ideal.ieee, -EReal.coe_mul, -EReal.coe_neg, eps]; norm_num
/-- The literal 1e-12. -/
theorem lit_tiny : Ideal.ofBits .f32 0x2B8CBCCC#32 = ((tiny : ℝ) : EReal) := by
  simp [Ideal.ofBits, Ideal.ieee, -EReal.coe_mul, -EReal.coe_neg, tiny]; norm_num
/-- The norm of channel 0. -/
theorem lit_norm0 : Ideal.ofBits .f32 0x3E906EBB#32 = ((norm 0 : ℝ) : EReal) := by
  simp [Ideal.ofBits, Ideal.ieee, -EReal.coe_mul, -EReal.coe_neg, norm]; norm_num
/-- The norm of channel 1. -/
theorem lit_norm1 : Ideal.ofBits .f32 0x3EFA2A1C#32 = ((norm 1 : ℝ) : EReal) := by
  simp [Ideal.ofBits, Ideal.ieee, -EReal.coe_mul, -EReal.coe_neg, norm]; norm_num
/-- The norm of channel 2. -/
theorem lit_norm2 : Ideal.ofBits .f32 0x3EB0E49C#32 = ((norm 2 : ℝ) : EReal) := by
  simp [Ideal.ofBits, Ideal.ieee, -EReal.coe_mul, -EReal.coe_neg, norm]; norm_num
/-- The norm of channel 3. -/
theorem lit_norm3 : Ideal.ofBits .f32 0x3F217B01#32 = ((norm 3 : ℝ) : EReal) := by
  simp [Ideal.ofBits, Ideal.ieee, -EReal.coe_mul, -EReal.coe_neg, norm]; norm_num
/-- The norm of channel 4. -/
theorem lit_norm4 : Ideal.ofBits .f32 0x3E83D928#32 = ((norm 4 : ℝ) : EReal) := by
  simp [Ideal.ofBits, Ideal.ieee, -EReal.coe_mul, -EReal.coe_neg, norm]; norm_num
/-- The norm of channel 5. -/
theorem lit_norm5 : Ideal.ofBits .f32 0x3E03D928#32 = ((norm 5 : ℝ) : EReal) := by
  simp [Ideal.ofBits, Ideal.ieee, -EReal.coe_mul, -EReal.coe_neg, norm]; norm_num
/-- The norm of channel 6. -/
theorem lit_norm6 : Ideal.ofBits .f32 0x3F3F10F8#32 = ((norm 6 : ℝ) : EReal) := by
  simp [Ideal.ofBits, Ideal.ieee, -EReal.coe_mul, -EReal.coe_neg, norm]; norm_num
/-- The norm of channel 7. -/
theorem lit_norm7 : Ideal.ofBits .f32 0x3E5C9FD5#32 = ((norm 7 : ℝ) : EReal) := by
  simp [Ideal.ofBits, Ideal.ieee, -EReal.coe_mul, -EReal.coe_neg, norm]; norm_num
/-- The norm of channel 8. -/
theorem lit_norm8 : Ideal.ofBits .f32 0x3D8B88FB#32 = ((norm 8 : ℝ) : EReal) := by
  simp [Ideal.ofBits, Ideal.ieee, -EReal.coe_mul, -EReal.coe_neg, norm]; norm_num
/-- The norm of channel 9. -/
theorem lit_norm9 : Ideal.ofBits .f32 0x3CE3DC1E#32 = ((norm 9 : ℝ) : EReal) := by
  simp [Ideal.ofBits, Ideal.ieee, -EReal.coe_mul, -EReal.coe_neg, norm]; norm_num
/-- Coefficient 0 of the polynomial. -/
theorem lit_coef0 : Ideal.ofBits .f32 0x3B4A99ED#32 = ((coef 0 : ℝ) : EReal) := by
  simp [Ideal.ofBits, Ideal.ieee, -EReal.coe_mul, -EReal.coe_neg, coef]; norm_num
/-- Coefficient 1 of the polynomial. -/
theorem lit_coef1 : Ideal.ofBits .f32 0xBC8BB4EF#32 = ((coef 1 : ℝ) : EReal) := by
  simp [Ideal.ofBits, Ideal.ieee, -EReal.coe_mul, -EReal.coe_neg, coef]; norm_num
/-- Coefficient 2 of the polynomial. -/
theorem lit_coef2 : Ideal.ofBits .f32 0x3D359457#32 = ((coef 2 : ℝ) : EReal) := by
  simp [Ideal.ofBits, Ideal.ieee, -EReal.coe_mul, -EReal.coe_neg, coef]; norm_num
/-- Coefficient 3 of the polynomial. -/
theorem lit_coef3 : Ideal.ofBits .f32 0xBD9C9CB0#32 = ((coef 3 : ℝ) : EReal) := by
  simp [Ideal.ofBits, Ideal.ieee, -EReal.coe_mul, -EReal.coe_neg, coef]; norm_num
/-- Coefficient 4 of the polynomial. -/
theorem lit_coef4 : Ideal.ofBits .f32 0x3DDB591E#32 = ((coef 4 : ℝ) : EReal) := by
  simp [Ideal.ofBits, Ideal.ieee, -EReal.coe_mul, -EReal.coe_neg, coef]; norm_num
/-- Coefficient 5 of the polynomial. -/
theorem lit_coef5 : Ideal.ofBits .f32 0xBE11A2A4#32 = ((coef 5 : ℝ) : EReal) := by
  simp [Ideal.ofBits, Ideal.ieee, -EReal.coe_mul, -EReal.coe_neg, coef]; norm_num
/-- Coefficient 6 of the polynomial. -/
theorem lit_coef6 : Ideal.ofBits .f32 0x3E4CBFF9#32 = ((coef 6 : ℝ) : EReal) := by
  simp [Ideal.ofBits, Ideal.ieee, -EReal.coe_mul, -EReal.coe_neg, coef]; norm_num
/-- Coefficient 7 of the polynomial. -/
theorem lit_coef7 : Ideal.ofBits .f32 0xBEAAAA80#32 = ((coef 7 : ℝ) : EReal) := by
  simp [Ideal.ofBits, Ideal.ieee, -EReal.coe_mul, -EReal.coe_neg, coef]; norm_num

end Cert.Own

end
-- ==== Proof.Lift.lean ====
module

public import proofs.«01_k».proof.Proof.Consts

@[expose] public section

noncomputable section

namespace Cert.Own

open Idealize.ShloMosaic

/-- The horizontal distance of a point from the axis, with the offset. -/
def radius (x y : ℝ) : ℝ := Real.sqrt (x * x + y * y) + eps

/-- The distance from the axis, with 1e-5 added, is positive. -/
theorem radius_pos (x y : ℝ) : 0 < radius x y := add_pos_of_nonneg_of_pos (Real.sqrt_nonneg _) eps_pos

/-! What the operations of the ideal instance are at real numbers. -/

/-- Adding 1e-5 to a real number. -/
theorem add_eps (x : ℝ) : (x : EReal) + Ideal.ofBits .f32 0x3727C5AC#32 = ((x + eps : ℝ) : EReal) := by
  rw [lit_eps, EReal.coe_add]

/-- The square root of a real number that is not negative. -/
theorem sqrt_lift (a : ℝ) (h : 0 ≤ a) : Ideal.sqrt (a : EReal) = ((Real.sqrt a : ℝ) : EReal) := by
  rw [Ideal.sqrt_coe, if_neg (not_lt.mpr h)]

/-- The distance from the axis, with 1e-5 added, at real coordinates. -/
theorem radius_lift (x y : ℝ) : Ideal.sqrt ((x : EReal) * x + (y : EReal) * y) + Ideal.ofBits .f32 0x3727C5AC#32
    = ((radius x y : ℝ) : EReal) := by
  rw [← EReal.coe_mul, ← EReal.coe_mul, ← EReal.coe_add, sqrt_lift _ (add_nonneg (mul_self_nonneg x) (mul_self_nonneg y)), add_eps, radius]

/-- The larger of two real numbers. -/
theorem max_lift (a b : ℝ) : ((max a b : ℝ) : EReal) = max (a : EReal) (b : EReal) := EReal.coe_strictMono.monotone.map_max
/-- The smaller of two real numbers. -/
theorem min_lift (a b : ℝ) : ((min a b : ℝ) : EReal) = min (a : EReal) (b : EReal) := EReal.coe_strictMono.monotone.map_min

/-- The absolute value of a real number. -/
theorem abs_lift (a : ℝ) : FloatOps.absf (F := Ideal) (φ := .f32) (a : EReal) = ((|a| : ℝ) : EReal) := by
  show max (a : EReal) (-(a : EReal)) = _
  rw [← EReal.coe_neg, ← max_lift]
  rfl

/-- The quotient that is handed to the arctangent. -/
theorem quot_lift (x y a : ℝ) : Ideal.div (min ((radius x y : ℝ) : EReal) (a : EReal)) (max ((radius x y : ℝ) : EReal) (a : EReal))
    = ((min (radius x y) a / max (radius x y) a : ℝ) : EReal) := by
  have h : max (radius x y) a ≠ 0 := (lt_of_lt_of_le (radius_pos x y) (le_max_left _ _)).ne'
  rw [← min_lift, ← max_lift, Ideal.div_coe h, ← EReal.coe_mul, mul_one_div]

/-- The arctangent of a real number. -/
theorem arctan_lift (q : ℝ) : Ideal.atan2 (q : EReal) 1 = ((Real.arctan q : ℝ) : EReal) := by
  rw [← EReal.coe_one, atan2_coe, angle, if_pos one_pos, div_one]

/-- A choice between two real numbers. -/
theorem ite_lift (p : Prop) [Decidable p] (a b : ℝ) : (if p then (a : EReal) else (b : EReal)) = ((if p then a else b : ℝ) : EReal) := by
  split_ifs <;> rfl

/-- A comparison of a real number with zero. -/
theorem nonneg_lift (a : ℝ) : (0 : EReal) ≤ (a : EReal) ↔ 0 ≤ a := EReal.coe_nonneg
/-- A comparison of a real number with zero. -/
theorem pos_lift (a : ℝ) : (0 : EReal) < (a : EReal) ↔ 0 < a := EReal.coe_pos
/-- A comparison of a real number with zero. -/
theorem neg_lift (a : ℝ) : (a : EReal) < (0 : EReal) ↔ a < 0 := EReal.coe_neg'

/-- The kernel's polynomial for the arctangent of `q`. -/
def poly (q : ℝ) : ℝ :=
  ((((((((coef 0 * (q * q) + coef 1) * (q * q) + coef 2) * (q * q) + coef 3) * (q * q) + coef 4) * (q * q) + coef 5) * (q * q) + coef 6) * (q * q) + coef 7) * (q * q) + 1) * q

/-- The phases of a point of three real coordinates, the angle computed with `A` for the arctangent. -/
def phases (A : ℝ → ℝ) (x y z : ℝ) : Fin 10 → ℝ :=
  fast (fold A (radius x y) (z + eps)) (radius x y) (z + eps) (x + eps) (y + eps)

end Cert.Own

end
-- ==== Proof.ArctanPoint.lean ====
module

public import proofs.«01_k».proof.Proof.ArctanArray
public import proofs.«01_k».proof.Proof.Lift

/-! # One phase of the kernel with the arctangent at real coordinates -/

@[expose] public section

noncomputable section

namespace Cert.ArctanIdeal.Own

open Cert.ArctanIdeal Cert.ArctanIdeal.Gen Idealize.ShloMosaic Idealize.ShloMosaic.TcCoe Cert.Own

/-- The named constant pi. -/
theorem lit_pi : (Named.named κ "pi" 0x40490FDB#32 : Ideal .f32) = ((Real.pi : ℝ) : EReal) :=
  IdealRules.named_const.ideal_named_scalar _ _ _ _ rfl
/-- The named constant −pi. -/
theorem lit_neg_pi : (Named.named κ "neg_pi" 0xC0490FDB#32 : Ideal .f32) = ((-Real.pi : ℝ) : EReal) :=
  IdealRules.named_const.ideal_named_scalar _ _ _ _ rfl
/-- The named constant pi/2. -/
theorem lit_half_pi : (Named.named κ "half_pi" 0x3FC90FDB#32 : Ideal .f32) = ((2⁻¹ * Real.pi : ℝ) : EReal) :=
  IdealRules.named_const.ideal_named_scalar _ _ _ _ rfl
/-- The named constant 2 pi. -/
theorem lit_two_pi : (Named.named κ "two_pi" 0x40C90FDB#32 : Ideal .f32) = ((2 * Real.pi : ℝ) : EReal) :=
  IdealRules.named_const.ideal_named_scalar _ _ _ _ rfl

/-- At real coordinates the body's phases are real. -/
theorem point_coe (c : Fin 10) (x y z : ℝ) : point c (x : EReal) (y : EReal) (z : EReal) = ((phases Real.arctan x y z c : ℝ) : EReal) := by
  have hc : c = 0 ∨ c = 1 ∨ c = 2 ∨ c = 3 ∨ c = 4 ∨ c = 5 ∨ c = 6 ∨ c = 7 ∨ c = 8 ∨ c = 9 := by omega
  unfold point
  rcases hc with rfl | rfl | rfl | rfl | rfl | rfl | rfl | rfl | rfl | rfl <;>
    dsimp only [phase] <;> unfold_payloads <;> pointwise <;>
    (try simp only [radius_lift]) <;>
    (try simp only [add_eps]) <;>
    simp only [abs_lift, quot_lift, arctan_lift, lit_pi, lit_neg_pi, lit_half_pi, lit_two_pi,
      lit_two, lit_three, lit_four, ← EReal.coe_mul, ← EReal.coe_sub, nonneg_lift, pos_lift, neg_lift,
      EReal.coe_le_coe_iff, EReal.coe_lt_coe_iff, ite_lift, ← EReal.coe_zero] <;>
    rfl

end Cert.ArctanIdeal.Own

end
-- ==== Proof.KernelArray.lean ====
module

public import proofs.«01_k».proof.Proof.Gen.KernelIdeal.Value
public import Idealize.ShloMosaic.Lib.Pointwise
public import Idealize.ShloMosaic.Lib.Pipeline.ValueKit
public import Idealize.ShloMosaic.Lib.Pipeline.ReadBack

/-! # The array that the kernel leaves

One step stores the Gram matrices of a block of eight rows; the blocks of all steps make up the array `result`. -/

@[expose] public section

noncomputable section

namespace Cert.KernelIdeal.Own

open Cert.KernelIdeal Cert.KernelIdeal.Gen Idealize.ShloMosaic Idealize.ShloMosaic.TcCoe
open Idealize.ShloMosaic.Pipeline (Dat)

/-- The phase of channel `c` that the body computes from the three coordinate planes of a block; channel 0 is not computed, its result is filled with zeros. -/
def phase (p0 p1 p2 : FVec Ideal S8x1x25x1024 .f32) : Fin 10 → FVec Ideal S8x25x1024 .f32
  | 0 => fun _ => 0
  | 1 => k0_pay23 (k0_pay5 p0)
  | 2 => k0_pay24 (angle p0 p1 p2)
  | 3 => k0_pay25 (k0_pay5 p0) (k0_pay6 p1)
  | 4 => k0_pay26 (k0_pay5 p0) (angle p0 p1 p2)
  | 5 => k0_pay14 (k0_pay7 p0 p1) (k0_pay8 p2) (k0_pay9 p2) (k0_pay10 p0 p1 p2) (k0_pay11 p0 p1 p2) (k0_pay12 p0 p1 p2)
  | 6 => k0_pay27 (k0_pay5 p0) (k0_pay6 p1)
  | 7 => k0_pay28 (k0_pay5 p0) (k0_pay6 p1) (angle p0 p1 p2)
  | 8 => k0_pay29
      (k0_pay14 (k0_pay7 p0 p1) (k0_pay8 p2) (k0_pay9 p2) (k0_pay10 p0 p1 p2) (k0_pay11 p0 p1 p2) (k0_pay12 p0 p1 p2))
      (k0_pay16 (k0_pay8 p2)) (k0_pay18 (k0_pay5 p0)) (FloatOps.ofBits FTy.f32 0#32)
  | 9 => k0_pay30
      (k0_pay15 (k0_pay7 p0 p1) (k0_pay8 p2) (k0_pay9 p2) (k0_pay10 p0 p1 p2) (k0_pay11 p0 p1 p2) (k0_pay12 p0 p1 p2))
      (k0_pay17 (k0_pay7 p0 p1) (k0_pay8 p2))
where
  /-- The polar angle that the body computes. -/
  angle (p0 p1 p2 : FVec Ideal S8x1x25x1024 .f32) : FVec Ideal S8x25x1024 .f32 :=
    k0_pay13 (k0_pay7 p0 p1) (k0_pay8 p2) (k0_pay9 p2) (k0_pay10 p0 p1 p2) (k0_pay11 p0 p1 p2) (k0_pay12 p0 p1 p2)

/-- Plane `a` of a block: the coordinate `a` of every point. -/
def plane (x : FVec Ideal S8x3x25x1024 .f32) (a : Fin 3) : FVec Ideal S8x1x25x1024 .f32 :=
  fun j => x (ix4 (j 0) a (j 2) (j 3))

/-- The block that the body stores: for each row and channel the Gram matrix of the phases over the 1024 positions. -/
def gram (x : FVec Ideal S8x3x25x1024 .f32) : FVec Ideal S8x10x25x25 .f32 := fun y =>
  ∑ k : Fin 1024, phase (plane x 0) (plane x 1) (plane x 2) (y 1) (ix3 (y 0) (y 2) k)
    * phase (plane x 0) (plane x 1) (plane x 2) (y 1) (ix3 (y 0) (y 3) k)

/-- A load of plane 0, 1 or 2 of a block is the plane. -/
theorem ld_plane0 (x : FVec Ideal S8x3x25x1024 .f32) :
    View.ld (Val := Elt Ideal) (e' := .f32) x (Rect.unit (s := S8x3x25x1024) ![0, 0, 0, 0] ![8, 1, 25, 1024] inb_S8x3x25x1024_S8x1x25x1024_0_0_0_0) = plane x 0 := by
  funext j; idx_vars j; pointwise [plane]
/-- The same for the second coordinate. -/
theorem ld_plane1 (x : FVec Ideal S8x3x25x1024 .f32) :
    View.ld (Val := Elt Ideal) (e' := .f32) x (Rect.unit (s := S8x3x25x1024) ![0, 1, 0, 0] ![8, 1, 25, 1024] inb_S8x3x25x1024_S8x1x25x1024_0_1_0_0) = plane x 1 := by
  funext j; idx_vars j; pointwise [plane]
/-- The same for the third coordinate. -/
theorem ld_plane2 (x : FVec Ideal S8x3x25x1024 .f32) :
    View.ld (Val := Elt Ideal) (e' := .f32) x (Rect.unit (s := S8x3x25x1024) ![0, 2, 0, 0] ![8, 1, 25, 1024] inb_S8x3x25x1024_S8x1x25x1024_0_2_0_0) = plane x 2 := by
  funext j; idx_vars j; pointwise [plane]

/-- What the body stores for member `n` of its block and channel `c` is that member's and channel's part of `gram`. -/
theorem piece (x : FVec Ideal S8x3x25x1024 .f32) (n c : ℕ) (hn : n < 8) (hc : c < 10) (hs : S8x25x1024.Slices ![n, 0, 0] S1x25x1024)
    (inb : ∀ a : Fin S8x10x25x25.rank, (![n, c, 0, 0] : Fin 4 → ℕ) a + (![1, 1, 25, 25] : Fin 4 → ℕ) a ≤ S8x10x25x25.size a)
    (p : S1x1x25x25.Idx) :
    shapeCast S1x1x25x25 (matmul dot_S25x1024_S25x1024_S25x25_1_1_0_0_n_n none
      (shapeCast S25x1024 (extractStridedSlice S1x25x1024 ![n, 0, 0] (phase (plane x 0) (plane x 1) (plane x 2) ⟨c, hc⟩) hs) shapeCasts_S1x25x1024_S25x1024)
      (shapeCast S25x1024 (extractStridedSlice S1x25x1024 ![n, 0, 0] (phase (plane x 0) (plane x 1) (plane x 2) ⟨c, hc⟩) hs) shapeCasts_S1x25x1024_S25x1024)
      (constant S25x25 .f32 0x00000000#32)) shapeCasts_S25x25_S1x1x25x25 p
      = gram x ((Rect.unit (s := S8x10x25x25) ![n, c, 0, 0] ![1, 1, 25, 25] inb).emb p) := by
  have e : (Rect.unit (s := S8x10x25x25) ![n, c, 0, 0] ![1, 1, 25, 25] inb).emb p
      = ix4 (⟨n, hn⟩ : Fin 8) (⟨c, hc⟩ : Fin 10) (p 2) (p 3) := by
    idx_vars p
    funext a
    refine Fin.ext ?_
    match a with
    | ⟨0, _⟩ | ⟨1, _⟩ | ⟨2, _⟩ | ⟨3, _⟩ => simp [Rect.emb, Rect.unit]
  rw [e]
  idx_vars p
  pointwise [gram]

/-- What the body fills channel 0 with is that channel's part of `gram`. -/
theorem fill (x : FVec Ideal S8x3x25x1024 .f32)
    (inb : ∀ a : Fin S8x10x25x25.rank, (![0, 0, 0, 0] : Fin 4 → ℕ) a + (![8, 1, 25, 25] : Fin 4 → ℕ) a ≤ S8x10x25x25.size a)
    (p : S8x1x25x25.Idx) :
    k0_pay31 (F := Ideal) p = gram x ((Rect.unit (s := S8x10x25x25) ![0, 0, 0, 0] ![8, 1, 25, 25] inb).emb p) := by
  have e : (Rect.unit (s := S8x10x25x25) ![0, 0, 0, 0] ![8, 1, 25, 25] inb).emb p
      = ix4 (p 0) (0 : Fin 10) (p 2) (p 3) := by
    idx_vars p
    funext a
    refine Fin.ext ?_
    match a with
    | ⟨0, _⟩ | ⟨1, _⟩ | ⟨2, _⟩ | ⟨3, _⟩ => simp [Rect.emb, Rect.unit]
  rw [e]
  idx_vars p
  pointwise [gram, k0_pay31]
  simp [phase]

variable (m : (ℓ : Loc nD τ sig) → Buf (Elt Ideal) ℓ)

/-- What step `t` leaves in its output block, from its input block. -/
theorem out_block (c : Dev nD) (t : Fin cfg0.N) :
    out0_A_1 (F := Ideal) c (grid0.coords t) (ms0_0 t) (hs0_0 t) (ms0_1 t) (hs0_1 t) (iblk m c 0 t) = gram (iblk m c 0 t) := by
  frame_out
  simp only [ld_plane0, ld_plane1, ld_plane2]
  generalize iblk m c 0 t = x
  funext y
  rw [← List.append_nil (List.cons _ _)]
  refine View.canon_append_of_piecesOf (Val := Elt Ideal) (e := .f32) (gram x) [] _ ?_ y ?_
  · refine ⟨
    piece x 7 9 (by decide) (by decide) slices_S8x25x1024_o7_0_0_S1x25x1024 inb_S8x10x25x25_S1x1x25x25_7_9_0_0,
    piece x 7 8 (by decide) (by decide) slices_S8x25x1024_o7_0_0_S1x25x1024 inb_S8x10x25x25_S1x1x25x25_7_8_0_0,
    piece x 7 7 (by decide) (by decide) slices_S8x25x1024_o7_0_0_S1x25x1024 inb_S8x10x25x25_S1x1x25x25_7_7_0_0,
    piece x 7 6 (by decide) (by decide) slices_S8x25x1024_o7_0_0_S1x25x1024 inb_S8x10x25x25_S1x1x25x25_7_6_0_0,
    piece x 7 5 (by decide) (by decide) slices_S8x25x1024_o7_0_0_S1x25x1024 inb_S8x10x25x25_S1x1x25x25_7_5_0_0,
    piece x 7 4 (by decide) (by decide) slices_S8x25x1024_o7_0_0_S1x25x1024 inb_S8x10x25x25_S1x1x25x25_7_4_0_0,
    piece x 7 3 (by decide) (by decide) slices_S8x25x1024_o7_0_0_S1x25x1024 inb_S8x10x25x25_S1x1x25x25_7_3_0_0,
    piece x 7 2 (by decide) (by decide) slices_S8x25x1024_o7_0_0_S1x25x1024 inb_S8x10x25x25_S1x1x25x25_7_2_0_0,
    piece x 7 1 (by decide) (by decide) slices_S8x25x1024_o7_0_0_S1x25x1024 inb_S8x10x25x25_S1x1x25x25_7_1_0_0,
    piece x 6 9 (by decide) (by decide) slices_S8x25x1024_o6_0_0_S1x25x1024 inb_S8x10x25x25_S1x1x25x25_6_9_0_0,
    piece x 6 8 (by decide) (by decide) slices_S8x25x1024_o6_0_0_S1x25x1024 inb_S8x10x25x25_S1x1x25x25_6_8_0_0,
    piece x 6 7 (by decide) (by decide) slices_S8x25x1024_o6_0_0_S1x25x1024 inb_S8x10x25x25_S1x1x25x25_6_7_0_0,
    piece x 6 6 (by decide) (by decide) slices_S8x25x1024_o6_0_0_S1x25x1024 inb_S8x10x25x25_S1x1x25x25_6_6_0_0,
    piece x 6 5 (by decide) (by decide) slices_S8x25x1024_o6_0_0_S1x25x1024 inb_S8x10x25x25_S1x1x25x25_6_5_0_0,
    piece x 6 4 (by decide) (by decide) slices_S8x25x1024_o6_0_0_S1x25x1024 inb_S8x10x25x25_S1x1x25x25_6_4_0_0,
    piece x 6 3 (by decide) (by decide) slices_S8x25x1024_o6_0_0_S1x25x1024 inb_S8x10x25x25_S1x1x25x25_6_3_0_0,
    piece x 6 2 (by decide) (by decide) slices_S8x25x1024_o6_0_0_S1x25x1024 inb_S8x10x25x25_S1x1x25x25_6_2_0_0,
    piece x 6 1 (by decide) (by decide) slices_S8x25x1024_o6_0_0_S1x25x1024 inb_S8x10x25x25_S1x1x25x25_6_1_0_0,
    piece x 5 9 (by decide) (by decide) slices_S8x25x1024_o5_0_0_S1x25x1024 inb_S8x10x25x25_S1x1x25x25_5_9_0_0,
    piece x 5 8 (by decide) (by decide) slices_S8x25x1024_o5_0_0_S1x25x1024 inb_S8x10x25x25_S1x1x25x25_5_8_0_0,
    piece x 5 7 (by decide) (by decide) slices_S8x25x1024_o5_0_0_S1x25x1024 inb_S8x10x25x25_S1x1x25x25_5_7_0_0,
    piece x 5 6 (by decide) (by decide) slices_S8x25x1024_o5_0_0_S1x25x1024 inb_S8x10x25x25_S1x1x25x25_5_6_0_0,
    piece x 5 5 (by decide) (by decide) slices_S8x25x1024_o5_0_0_S1x25x1024 inb_S8x10x25x25_S1x1x25x25_5_5_0_0,
    piece x 5 4 (by decide) (by decide) slices_S8x25x1024_o5_0_0_S1x25x1024 inb_S8x10x25x25_S1x1x25x25_5_4_0_0,
    piece x 5 3 (by decide) (by decide) slices_S8x25x1024_o5_0_0_S1x25x1024 inb_S8x10x25x25_S1x1x25x25_5_3_0_0,
    piece x 5 2 (by decide) (by decide) slices_S8x25x1024_o5_0_0_S1x25x1024 inb_S8x10x25x25_S1x1x25x25_5_2_0_0,
    piece x 5 1 (by decide) (by decide) slices_S8x25x1024_o5_0_0_S1x25x1024 inb_S8x10x25x25_S1x1x25x25_5_1_0_0,
    piece x 4 9 (by decide) (by decide) slices_S8x25x1024_o4_0_0_S1x25x1024 inb_S8x10x25x25_S1x1x25x25_4_9_0_0,
    piece x 4 8 (by decide) (by decide) slices_S8x25x1024_o4_0_0_S1x25x1024 inb_S8x10x25x25_S1x1x25x25_4_8_0_0,
    piece x 4 7 (by decide) (by decide) slices_S8x25x1024_o4_0_0_S1x25x1024 inb_S8x10x25x25_S1x1x25x25_4_7_0_0,
    piece x 4 6 (by decide) (by decide) slices_S8x25x1024_o4_0_0_S1x25x1024 inb_S8x10x25x25_S1x1x25x25_4_6_0_0,
    piece x 4 5 (by decide) (by decide) slices_S8x25x1024_o4_0_0_S1x25x1024 inb_S8x10x25x25_S1x1x25x25_4_5_0_0,
    piece x 4 4 (by decide) (by decide) slices_S8x25x1024_o4_0_0_S1x25x1024 inb_S8x10x25x25_S1x1x25x25_4_4_0_0,
    piece x 4 3 (by decide) (by decide) slices_S8x25x1024_o4_0_0_S1x25x1024 inb_S8x10x25x25_S1x1x25x25_4_3_0_0,
    piece x 4 2 (by decide) (by decide) slices_S8x25x1024_o4_0_0_S1x25x1024 inb_S8x10x25x25_S1x1x25x25_4_2_0_0,
    piece x 4 1 (by decide) (by decide) slices_S8x25x1024_o4_0_0_S1x25x1024 inb_S8x10x25x25_S1x1x25x25_4_1_0_0,
    piece x 3 9 (by decide) (by decide) slices_S8x25x1024_o3_0_0_S1x25x1024 inb_S8x10x25x25_S1x1x25x25_3_9_0_0,
    piece x 3 8 (by decide) (by decide) slices_S8x25x1024_o3_0_0_S1x25x1024 inb_S8x10x25x25_S1x1x25x25_3_8_0_0,
    piece x 3 7 (by decide) (by decide) slices_S8x25x1024_o3_0_0_S1x25x1024 inb_S8x10x25x25_S1x1x25x25_3_7_0_0,
    piece x 3 6 (by decide) (by decide) slices_S8x25x1024_o3_0_0_S1x25x1024 inb_S8x10x25x25_S1x1x25x25_3_6_0_0,
    piece x 3 5 (by decide) (by decide) slices_S8x25x1024_o3_0_0_S1x25x1024 inb_S8x10x25x25_S1x1x25x25_3_5_0_0,
    piece x 3 4 (by decide) (by decide) slices_S8x25x1024_o3_0_0_S1x25x1024 inb_S8x10x25x25_S1x1x25x25_3_4_0_0,
    piece x 3 3 (by decide) (by decide) slices_S8x25x1024_o3_0_0_S1x25x1024 inb_S8x10x25x25_S1x1x25x25_3_3_0_0,
    piece x 3 2 (by decide) (by decide) slices_S8x25x1024_o3_0_0_S1x25x1024 inb_S8x10x25x25_S1x1x25x25_3_2_0_0,
    piece x 3 1 (by decide) (by decide) slices_S8x25x1024_o3_0_0_S1x25x1024 inb_S8x10x25x25_S1x1x25x25_3_1_0_0,
    piece x 2 9 (by decide) (by decide) slices_S8x25x1024_o2_0_0_S1x25x1024 inb_S8x10x25x25_S1x1x25x25_2_9_0_0,
    piece x 2 8 (by decide) (by decide) slices_S8x25x1024_o2_0_0_S1x25x1024 inb_S8x10x25x25_S1x1x25x25_2_8_0_0,
    piece x 2 7 (by decide) (by decide) slices_S8x25x1024_o2_0_0_S1x25x1024 inb_S8x10x25x25_S1x1x25x25_2_7_0_0,
    piece x 2 6 (by decide) (by decide) slices_S8x25x1024_o2_0_0_S1x25x1024 inb_S8x10x25x25_S1x1x25x25_2_6_0_0,
    piece x 2 5 (by decide) (by decide) slices_S8x25x1024_o2_0_0_S1x25x1024 inb_S8x10x25x25_S1x1x25x25_2_5_0_0,
    piece x 2 4 (by decide) (by decide) slices_S8x25x1024_o2_0_0_S1x25x1024 inb_S8x10x25x25_S1x1x25x25_2_4_0_0,
    piece x 2 3 (by decide) (by decide) slices_S8x25x1024_o2_0_0_S1x25x1024 inb_S8x10x25x25_S1x1x25x25_2_3_0_0,
    piece x 2 2 (by decide) (by decide) slices_S8x25x1024_o2_0_0_S1x25x1024 inb_S8x10x25x25_S1x1x25x25_2_2_0_0,
    piece x 2 1 (by decide) (by decide) slices_S8x25x1024_o2_0_0_S1x25x1024 inb_S8x10x25x25_S1x1x25x25_2_1_0_0,
    piece x 1 9 (by decide) (by decide) slices_S8x25x1024_o1_0_0_S1x25x1024 inb_S8x10x25x25_S1x1x25x25_1_9_0_0,
    piece x 1 8 (by decide) (by decide) slices_S8x25x1024_o1_0_0_S1x25x1024 inb_S8x10x25x25_S1x1x25x25_1_8_0_0,
    piece x 1 7 (by decide) (by decide) slices_S8x25x1024_o1_0_0_S1x25x1024 inb_S8x10x25x25_S1x1x25x25_1_7_0_0,
    piece x 1 6 (by decide) (by decide) slices_S8x25x1024_o1_0_0_S1x25x1024 inb_S8x10x25x25_S1x1x25x25_1_6_0_0,
    piece x 1 5 (by decide) (by decide) slices_S8x25x1024_o1_0_0_S1x25x1024 inb_S8x10x25x25_S1x1x25x25_1_5_0_0,
    piece x 1 4 (by decide) (by decide) slices_S8x25x1024_o1_0_0_S1x25x1024 inb_S8x10x25x25_S1x1x25x25_1_4_0_0,
    piece x 1 3 (by decide) (by decide) slices_S8x25x1024_o1_0_0_S1x25x1024 inb_S8x10x25x25_S1x1x25x25_1_3_0_0,
    piece x 1 2 (by decide) (by decide) slices_S8x25x1024_o1_0_0_S1x25x1024 inb_S8x10x25x25_S1x1x25x25_1_2_0_0,
    piece x 1 1 (by decide) (by decide) slices_S8x25x1024_o1_0_0_S1x25x1024 inb_S8x10x25x25_S1x1x25x25_1_1_0_0,
    piece x 0 9 (by decide) (by decide) slices_S8x25x1024_o0_0_0_S1x25x1024 inb_S8x10x25x25_S1x1x25x25_0_9_0_0,
    piece x 0 8 (by decide) (by decide) slices_S8x25x1024_o0_0_0_S1x25x1024 inb_S8x10x25x25_S1x1x25x25_0_8_0_0,
    piece x 0 7 (by decide) (by decide) slices_S8x25x1024_o0_0_0_S1x25x1024 inb_S8x10x25x25_S1x1x25x25_0_7_0_0,
    piece x 0 6 (by decide) (by decide) slices_S8x25x1024_o0_0_0_S1x25x1024 inb_S8x10x25x25_S1x1x25x25_0_6_0_0,
    piece x 0 5 (by decide) (by decide) slices_S8x25x1024_o0_0_0_S1x25x1024 inb_S8x10x25x25_S1x1x25x25_0_5_0_0,
    piece x 0 4 (by decide) (by decide) slices_S8x25x1024_o0_0_0_S1x25x1024 inb_S8x10x25x25_S1x1x25x25_0_4_0_0,
    piece x 0 3 (by decide) (by decide) slices_S8x25x1024_o0_0_0_S1x25x1024 inb_S8x10x25x25_S1x1x25x25_0_3_0_0,
    piece x 0 2 (by decide) (by decide) slices_S8x25x1024_o0_0_0_S1x25x1024 inb_S8x10x25x25_S1x1x25x25_0_2_0_0,
    piece x 0 1 (by decide) (by decide) slices_S8x25x1024_o0_0_0_S1x25x1024 inb_S8x10x25x25_S1x1x25x25_0_1_0_0,
    fill x inb_S8x10x25x25_S8x1x25x25_0_0_0_0, trivial⟩
  · exact View.cover_of_tiledBy _ ![1, 1, 25, 25] (by sl_kernel_rfl) y

/-- The phase of channel `c` at one point with coordinates `a`, `b`, `d`. -/
def point (c : Fin 10) (a b d : EReal) : EReal :=
  phase (fun _ => a) (fun _ => b) (fun _ => d) c (ix3 0 0 0)

/-- The body's phases are computed point by point. -/
theorem phase_apply (p0 p1 p2 : FVec Ideal S8x1x25x1024 .f32) (c : Fin 10) (n : Fin 8) (v : Fin 25) (k : Fin 1024) :
    phase p0 p1 p2 c (ix3 n v k) = point c (p0 (ix4 n 0 v k)) (p1 (ix4 n 0 v k)) (p2 (ix4 n 0 v k)) := by
  have hc : c = 0 ∨ c = 1 ∨ c = 2 ∨ c = 3 ∨ c = 4 ∨ c = 5 ∨ c = 6 ∨ c = 7 ∨ c = 8 ∨ c = 9 := by omega
  unfold point
  rcases hc with rfl | rfl | rfl | rfl | rfl | rfl | rfl | rfl | rfl | rfl <;>
    dsimp only [phase, phase.angle] <;> unfold_payloads <;> pointwise

/-- The result of the launch: per member, channel and pair of joints the sum over time of the products of the phases. -/
def result (x : FVec Ideal S256x3x1024x25 .f32) : FVec Ideal S256x10x25x25 .f32 := fun i =>
  ∑ k : Fin 1024,
    point (i 1) (x (ix4 (i 0) 0 k (i 2))) (x (ix4 (i 0) 1 k (i 2))) (x (ix4 (i 0) 2 k (i 2)))
      * point (i 1) (x (ix4 (i 0) 0 k (i 3))) (x (ix4 (i 0) 1 k (i 3))) (x (ix4 (i 0) 2 k (i 3)))

/-- The array that the blocks are cut from is the argument with its last two axes exchanged. -/
theorem entry (c : Dev nD) : V m c main_v0
    = transpose S256x3x25x1024 [0, 1, 3, 2] (m ((c : Thread nD τ).loc main_arg0)) transposes_S256x3x1024x25_S256x3x25x1024_0_1_3_2 := by
  rfl

/-- Step `t` reads and writes the blocks of index `t` on the first axis. -/
theorem idx : ∀ t : Fin cfg0.N, win0_0.index t = ![t.val, 0, 0, 0] ∧ win0_1.index t = ![t.val, 0, 0, 0] := by
  decide +kernel

/-- Block `t` of the input at an index, read off the argument. -/
theorem block (c : Dev nD) (t : Fin cfg0.N) (n : Fin 8) (a : Fin 3) (v : Fin 25) (k : Fin 1024) (h : t.val * 8 + n.val < 256) :
    iblk m c 0 t (ix4 n a v k) = m ((c : Thread nD τ).loc main_arg0) (ix4 (⟨t.val * 8 + n.val, h⟩ : Fin 256) a k v) := by
  have e : ((cfg0.win 0).blk t).view.emb (ix4 n a v k) = ix4 (⟨t.val * 8 + n.val, h⟩ : Fin 256) a v k := by
    blk_ext [idx t]
  show V m c main_v0 (((cfg0.win 0).blk t).view.emb (ix4 n a v k)) = _
  rw [entry, e]
  pointwise

/-- The result array after the launch. -/
theorem array (c : Dev nD) : (dats m 0 c).arrAt 1 cfg0.N = result (m ((c : Thread nD τ).loc main_arg0)) := by
  refine (dats m 0 c).arrAt_eq_of_covers 1 _ (by decide +kernel) fun t hf y => ?_
  blk_simp
  rw [after0_1, outsAt0, out_block]
  have ht : t.val < 32 := t.isLt
  obtain ⟨n, a, v, w, rfl⟩ : ∃ (n : Fin 8) (a : Fin 10) (v : Fin 25) (w : Fin 25), y = ix4 n a v w := ⟨y 0, y 1, y 2, y 3, eq_ix4 y⟩
  have hn : t.val * 8 + n.val < 256 := by omega
  have e : (win0_1.blk t).view.emb (ix4 n a v w) = ix4 (⟨t.val * 8 + n.val, hn⟩ : Fin 256) a v w := by
    blk_ext [idx t]
  rw [e]
  show ∑ k : Fin 1024, phase _ _ _ a (ix3 n v k) * phase _ _ _ a (ix3 n w k) = _
  refine Finset.sum_congr rfl fun k _ => ?_
  rw [phase_apply, phase_apply]
  have P : ∀ j : Fin 25, point a (iblk m c 0 t (ix4 n 0 j k)) (iblk m c 0 t (ix4 n 1 j k)) (iblk m c 0 t (ix4 n 2 j k))
      = point a (m ((c : Thread nD τ).loc main_arg0) (ix4 (⟨t.val * 8 + n.val, hn⟩ : Fin 256) 0 k j))
        (m ((c : Thread nD τ).loc main_arg0) (ix4 (⟨t.val * 8 + n.val, hn⟩ : Fin 256) 1 k j))
        (m ((c : Thread nD τ).loc main_arg0) (ix4 (⟨t.val * 8 + n.val, hn⟩ : Fin 256) 2 k j)) := fun j => by
    rw [block m c t n 0 j k hn, block m c t n 1 j k hn, block m c t n 2 j k hn]
  exact congrArg₂ (· * ·) (P v) (P w)

end Cert.KernelIdeal.Own

end
-- ==== Proof.KernelPoint.lean ====
module

public import proofs.«01_k».proof.Proof.KernelArray
public import proofs.«01_k».proof.Proof.Lift

/-! # One phase of the kernel at real coordinates -/

@[expose] public section

noncomputable section

namespace Cert.KernelIdeal.Own

open Cert.KernelIdeal Cert.KernelIdeal.Gen Idealize.ShloMosaic Idealize.ShloMosaic.TcCoe Cert.Own

/-- The named constant pi. -/
theorem lit_pi : (Named.named κ "pi" 0x40490FDB#32 : Ideal .f32) = ((Real.pi : ℝ) : EReal) :=
  IdealRules.named_const.ideal_named_scalar _ _ _ _ rfl
/-- The named constant −pi. -/
theorem lit_neg_pi : (Named.named κ "neg_pi" 0xC0490FDB#32 : Ideal .f32) = ((-Real.pi : ℝ) : EReal) :=
  IdealRules.named_const.ideal_named_scalar _ _ _ _ rfl
/-- The named constant pi/2. -/
theorem lit_half_pi : (Named.named κ "half_pi" 0x3FC90FDB#32 : Ideal .f32) = ((2⁻¹ * Real.pi : ℝ) : EReal) :=
  IdealRules.named_const.ideal_named_scalar _ _ _ _ rfl
/-- The named constant 2 pi. -/
theorem lit_two_pi : (Named.named κ "two_pi" 0x40C90FDB#32 : Ideal .f32) = ((2 * Real.pi : ℝ) : EReal) :=
  IdealRules.named_const.ideal_named_scalar _ _ _ _ rfl

/-- At real coordinates the body's phases are real. -/
theorem point_coe (c : Fin 10) (x y z : ℝ) : point c (x : EReal) (y : EReal) (z : EReal) = ((phases poly x y z c : ℝ) : EReal) := by
  have hc : c = 0 ∨ c = 1 ∨ c = 2 ∨ c = 3 ∨ c = 4 ∨ c = 5 ∨ c = 6 ∨ c = 7 ∨ c = 8 ∨ c = 9 := by omega
  unfold point
  rcases hc with rfl | rfl | rfl | rfl | rfl | rfl | rfl | rfl | rfl | rfl <;>
    dsimp only [phase, phase.angle] <;> unfold_payloads <;> pointwise <;>
    (try simp only [radius_lift]) <;>
    (try simp only [add_eps]) <;>
    simp only [abs_lift, quot_lift, lit_pi, lit_neg_pi, lit_half_pi, lit_two_pi,
      lit_two, lit_three, lit_four, lit_coef0, lit_coef1, lit_coef2, lit_coef3, lit_coef4, lit_coef5, lit_coef6, lit_coef7,
      ← EReal.coe_one, ← EReal.coe_add, ← EReal.coe_mul, ← EReal.coe_sub, nonneg_lift, pos_lift, neg_lift,
      EReal.coe_le_coe_iff, EReal.coe_lt_coe_iff, ite_lift, ← EReal.coe_zero] <;>
    rfl

end Cert.KernelIdeal.Own

end
-- ==== Proof.RefPoint.lean ====
module

public import proofs.«01_k».proof.Proof.Lift
public import proofs.«01_k».proof.Proof.Gen.ReferenceIdeal.Read
public import proofs.«01_k».proof.Proof.Gen.ReferenceIdeal.Run

/-! # The reference's phases at real coordinates -/

@[expose] public section

noncomputable section

namespace Cert.ReferenceIdeal.Own

open Cert.ReferenceIdeal Cert.ReferenceIdeal.Read Idealize.ShloMosaic Cert.Own

/-- The sine of the azimuth as the reference computes it from the cosine, never below the floor. -/
def sine (c : ℝ) : ℝ := Real.sqrt (min 1 (max tiny (1 - c * c)))

/-- The reference's sine is positive. -/
theorem sine_pos (c : ℝ) : 0 < sine c :=
  Real.sqrt_pos.mpr (lt_min one_pos (lt_of_lt_of_le tiny_pos (le_max_left _ _)))

/-- The reference's phase of each channel at a point of three real coordinates. -/
def exact (x y z : ℝ) (k : Fin 10) : ℝ :=
  harmonic (norm k) (angle (radius x y) (z + eps)) (Real.cos (angle (y + eps) (x + eps)))
    (sine (Real.cos (angle (y + eps) (x + eps)))) k

section Point

variable (X : (⟨S256x3x1024x25, .f32⟩ : BufTy).Contents (Elt Ideal)) (n : Fin 256) (t : Fin 1024) (v : Fin 25)
variable {x y z : ℝ} (hx : X (ix4 n 0 t v) = (x : EReal)) (hy : X (ix4 n 1 t v) = (y : EReal)) (hz : X (ix4 n 2 t v) = (z : EReal))

include hx hy hz in
/-- The reference's polar angle at real coordinates. -/
theorem polar_at : val_main_v14 X (ix3 n t v) = ((angle (radius x y) (z + eps) : ℝ) : EReal) := by
  pointwise [
    val_main_v14, val_main_v9, val_main_v13, val_main_v7, val_main_v8, val_main_v11, val_main_v12, val_main_v6,
    val_main_cst, val_main_v10, val_main_cst_0, val_main_v2, val_main_v5, val_main_v1, val_main_v4, val_main_v0,
    val_main_v3]
  rw [hx, hy, hz, radius_lift, add_eps, atan2_coe]

include hx hy in
/-- The cosine of the reference's azimuth at real coordinates. -/
theorem cosine_at : val_main_v24 X (ix3 n t v) = ((Real.cos (angle (y + eps) (x + eps)) : ℝ) : EReal) := by
  pointwise [
    val_main_v24, val_main_v23, val_main_v18, val_main_v22, val_main_v16, val_main_v17, val_main_v20, val_main_v21,
    val_main_v15, val_main_cst_1, val_main_v19, val_main_cst_2]
  rw [hx, hy, add_eps, add_eps, atan2_coe, Ideal.cos_coe]

/-- The reference's sine, from its cosine. -/
theorem sine_at {c : ℝ} (h : val_main_v24 X (ix3 n t v) = (c : EReal)) : val_main_v29 X (ix3 n t v) = ((sine c : ℝ) : EReal) := by
  pointwise [
    val_main_v29, val_main_v28, val_main_call0_v4, val_main_call0_v2, val_main_call0_v3, val_main_call0_v1,
    val_main_v27, val_main_cst_5, val_main_call0_v0, val_main_v26, val_main_v25, val_main_cst_4, val_main_cst_3]
  rw [h]
  show Ideal.sqrt (min (Ideal.ofBits .f32 0x3F800000#32) (max (Ideal.ofBits .f32 0x2B8CBCCC#32) (1 - (c : EReal) * c))) = _
  rw [Ideal.ofBits_one_f32, lit_tiny, ← EReal.coe_one, ← EReal.coe_mul, ← EReal.coe_sub, ← max_lift, ← min_lift, sqrt_lift, sine]
  exact le_min zero_le_one (le_trans tiny_pos.le (le_max_left _ _))

include hx hy hz in
/-- The reference's phases at real coordinates. -/
theorem phase_at (k : Fin 10) : val_main_v193 X (ix4 n k t v) = ((exact x y z k : ℝ) : EReal) := by
  have hp := polar_at X n t v hx hy hz
  have hc := cosine_at X n t v hx hy
  have hs := sine_at X n t v hc
  have hk : k = 0 ∨ k = 1 ∨ k = 2 ∨ k = 3 ∨ k = 4 ∨ k = 5 ∨ k = 6 ∨ k = 7 ∨ k = 8 ∨ k = 9 := by omega
  unfold exact harmonic
  generalize angle (radius x y) (z + eps) = θ at *
  generalize Real.cos (angle (y + eps) (x + eps)) = c at *
  generalize sine c = s at *
  rcases hk with rfl | rfl | rfl | rfl | rfl | rfl | rfl | rfl | rfl | rfl
  · pointwise [
      val_main_v193, val_main_v183, val_main_v83, val_main_v82, val_main_v78, val_main_v74, val_main_v81, val_main_v77,
      val_main_v73, val_main_v30, val_main_v80, val_main_v76, val_main_cst_22, val_main_cst_6, val_main_v79,
      val_main_v75, val_main_cst_24, val_main_cst_23]
    (try rw [hp]); (try rw [hc]); (try rw [hs])
    simp only [lit_norm0, lit_two, lit_three, lit_five, lit_fifteen, lit_half, lit_neg_three, lit_neg_three_halves, lit_neg_fifteen,
      ← EReal.coe_zero, ← EReal.coe_one, ← EReal.coe_mul, ← EReal.coe_sub, ← EReal.coe_neg, Ideal.cos_coe, Ideal.sin_coe, atan2_coe]
    simp only [order, legendre, one_mul, mul_one]
  · pointwise [
      val_main_v193, val_main_v184, val_main_v94, val_main_v93, val_main_v89, val_main_v85, val_main_v92, val_main_v88,
      val_main_v84, val_main_v91, val_main_v87, val_main_cst_25, val_main_v90, val_main_v86, val_main_cst_27,
      val_main_cst_26]
    (try rw [hp]); (try rw [hc]); (try rw [hs])
    simp only [lit_norm1, lit_two, lit_three, lit_five, lit_fifteen, lit_half, lit_neg_three, lit_neg_three_halves, lit_neg_fifteen,
      ← EReal.coe_zero, ← EReal.coe_one, ← EReal.coe_mul, ← EReal.coe_sub, ← EReal.coe_neg, Ideal.cos_coe, Ideal.sin_coe, atan2_coe]
    rfl
  · pointwise [
      val_main_v193, val_main_v185, val_main_v105, val_main_v104, val_main_v100, val_main_v96, val_main_v103,
      val_main_v99, val_main_v95, val_main_v31, val_main_v102, val_main_v98, val_main_cst_28, val_main_v101,
      val_main_v97, val_main_cst_30, val_main_cst_29]
    (try rw [hp]); (try rw [hc]); (try rw [hs])
    simp only [lit_norm2, lit_two, lit_three, lit_five, lit_fifteen, lit_half, lit_neg_three, lit_neg_three_halves, lit_neg_fifteen,
      ← EReal.coe_zero, ← EReal.coe_one, ← EReal.coe_mul, ← EReal.coe_sub, ← EReal.coe_neg, Ideal.cos_coe, Ideal.sin_coe, atan2_coe]
    simp only [order, legendre, one_mul, mul_one]
  · pointwise [
      val_main_v193, val_main_v186, val_main_v116, val_main_v115, val_main_v111, val_main_v107, val_main_v114,
      val_main_v110, val_main_v106, val_main_v38, val_main_v113, val_main_v109, val_main_cst_31, val_main_v37,
      val_main_v36, val_main_v112, val_main_v108, val_main_cst_9, val_main_v34, val_main_v35, val_main_cst_33,
      val_main_cst_32, val_main_v33, val_main_cst_8, val_main_v32, val_main_cst_7]
    (try rw [hp]); (try rw [hc]); (try rw [hs])
    simp only [lit_norm3, lit_two, lit_three, lit_five, lit_fifteen, lit_half, lit_neg_three, lit_neg_three_halves, lit_neg_fifteen,
      ← EReal.coe_zero, ← EReal.coe_one, ← EReal.coe_mul, ← EReal.coe_sub, ← EReal.coe_neg, Ideal.cos_coe, Ideal.sin_coe, atan2_coe]
    rfl
  · pointwise [
      val_main_v193, val_main_v187, val_main_v127, val_main_v126, val_main_v122, val_main_v118, val_main_v125,
      val_main_v121, val_main_v117, val_main_v41, val_main_v124, val_main_v120, val_main_cst_34, val_main_v40,
      val_main_v123, val_main_v119, val_main_v39, val_main_cst_36, val_main_cst_35, val_main_cst_10]
    (try rw [hp]); (try rw [hc]); (try rw [hs])
    simp only [lit_norm4, lit_two, lit_three, lit_five, lit_fifteen, lit_half, lit_neg_three, lit_neg_three_halves, lit_neg_fifteen,
      ← EReal.coe_zero, ← EReal.coe_one, ← EReal.coe_mul, ← EReal.coe_sub, ← EReal.coe_neg, Ideal.cos_coe, Ideal.sin_coe, atan2_coe]
    simp only [order, legendre, one_mul, mul_one]
  · pointwise [
      val_main_v193, val_main_v188, val_main_v138, val_main_v137, val_main_v133, val_main_v129, val_main_v136,
      val_main_v132, val_main_v128, val_main_v46, val_main_v135, val_main_v131, val_main_cst_37, val_main_v45,
      val_main_v44, val_main_v134, val_main_v130, val_main_cst_12, val_main_v43, val_main_v42, val_main_cst_39,
      val_main_cst_38, val_main_cst_11]
    (try rw [hp]); (try rw [hc]); (try rw [hs])
    simp only [lit_norm5, lit_two, lit_three, lit_five, lit_fifteen, lit_half, lit_neg_three, lit_neg_three_halves, lit_neg_fifteen,
      ← EReal.coe_zero, ← EReal.coe_one, ← EReal.coe_mul, ← EReal.coe_sub, ← EReal.coe_neg, Ideal.cos_coe, Ideal.sin_coe, atan2_coe]
    rfl
  · pointwise [
      val_main_v193, val_main_v189, val_main_v149, val_main_v148, val_main_v144, val_main_v140, val_main_v147,
      val_main_v143, val_main_v139, val_main_v54, val_main_v146, val_main_v142, val_main_cst_40, val_main_v48,
      val_main_v53, val_main_v145, val_main_v141, val_main_v47, val_main_v51, val_main_v52, val_main_cst_42,
      val_main_cst_41, val_main_cst_13, val_main_v50, val_main_cst_15, val_main_v49, val_main_cst_14]
    (try rw [hp]); (try rw [hc]); (try rw [hs])
    simp only [lit_norm6, lit_two, lit_three, lit_five, lit_fifteen, lit_half, lit_neg_three, lit_neg_three_halves, lit_neg_fifteen,
      ← EReal.coe_zero, ← EReal.coe_one, ← EReal.coe_mul, ← EReal.coe_sub, ← EReal.coe_neg, Ideal.cos_coe, Ideal.sin_coe, atan2_coe]
    rfl
  · pointwise [
      val_main_v193, val_main_v190, val_main_v160, val_main_v159, val_main_v155, val_main_v151, val_main_v158,
      val_main_v154, val_main_v150, val_main_v62, val_main_v157, val_main_v153, val_main_cst_43, val_main_v61,
      val_main_v156, val_main_v152, val_main_v60, val_main_v59, val_main_cst_45, val_main_cst_44, val_main_cst_18,
      val_main_v57, val_main_v58, val_main_v56, val_main_cst_17, val_main_v55, val_main_cst_16]
    (try rw [hp]); (try rw [hc]); (try rw [hs])
    simp only [lit_norm7, lit_two, lit_three, lit_five, lit_fifteen, lit_half, lit_neg_three, lit_neg_three_halves, lit_neg_fifteen,
      ← EReal.coe_zero, ← EReal.coe_one, ← EReal.coe_mul, ← EReal.coe_sub, ← EReal.coe_neg, Ideal.cos_coe, Ideal.sin_coe, atan2_coe]
    simp only [order, legendre, one_mul, mul_one]
  · pointwise [
      val_main_v193, val_main_v191, val_main_v171, val_main_v170, val_main_v166, val_main_v162, val_main_v169,
      val_main_v165, val_main_v161, val_main_v68, val_main_v168, val_main_v164, val_main_cst_46, val_main_v64,
      val_main_v67, val_main_v167, val_main_v163, val_main_v63, val_main_v66, val_main_v65, val_main_cst_48,
      val_main_cst_47, val_main_cst_19, val_main_cst_20]
    (try rw [hp]); (try rw [hc]); (try rw [hs])
    simp only [lit_norm8, lit_two, lit_three, lit_five, lit_fifteen, lit_half, lit_neg_three, lit_neg_three_halves, lit_neg_fifteen,
      ← EReal.coe_zero, ← EReal.coe_one, ← EReal.coe_mul, ← EReal.coe_sub, ← EReal.coe_neg, Ideal.cos_coe, Ideal.sin_coe, atan2_coe]
    rfl
  · pointwise [
      val_main_v193, val_main_v192, val_main_v182, val_main_v181, val_main_v177, val_main_v173, val_main_v180,
      val_main_v176, val_main_v172, val_main_v72, val_main_v179, val_main_v175, val_main_cst_49, val_main_v71,
      val_main_v178, val_main_v174, val_main_v70, val_main_cst_51, val_main_cst_50, val_main_v69, val_main_cst_21]
    (try rw [hp]); (try rw [hc]); (try rw [hs])
    simp only [lit_norm9, lit_two, lit_three, lit_five, lit_fifteen, lit_half, lit_neg_three, lit_neg_three_halves, lit_neg_fifteen,
      ← EReal.coe_zero, ← EReal.coe_one, ← EReal.coe_mul, ← EReal.coe_sub, ← EReal.coe_neg, Ideal.cos_coe, Ideal.sin_coe, atan2_coe]
    rfl

end Point

end Cert.ReferenceIdeal.Own

end
-- ==== Proof.Conditions.lean ====
module

public import proofs.«01_k».proof.Proof.Lift
public import proofs.«01_k».proof.Proof.Gen.Pre_finite
public import proofs.«01_k».proof.Proof.Gen.Pre_generic
public import proofs.«01_k».proof.Proof.Gen.Pre_clear
public import proofs.«01_k».proof.Proof.Gen.On_signs

/-! # What the three preconditions and the mask say at one element -/

@[expose] public section

noncomputable section

namespace Cert.Own

open Idealize.ShloMosaic

/-- An element whose absolute value lies below the infinity is a real number. -/
theorem real_of_abs_lt (a : EReal) (h : FloatOps.absf (F := Ideal) (φ := .f32) a < Ideal.ofBits .f32 0x7F800000#32) :
    ∃ r : ℝ, a = (r : EReal) := by
  have ht : Ideal.ofBits .f32 0x7F800000#32 = (⊤ : EReal) := by simp [Ideal.ofBits, Ideal.ieee]
  rw [ht] at h
  induction a with
  | bot => exact absurd h (by simp [FloatOps.absf])
  | top => exact absurd h (by simp [FloatOps.absf])
  | coe r => exact ⟨r, rfl⟩

/-- A comparison's bit is one exactly where the comparison holds. -/
theorem bit_one {p : Prop} [Decidable p] (h : BitVec.ofBool (decide p) = 1#1) : p := by
  by_contra hp
  simp [hp] at h

/-- A conjunction of bits is one only where both are. -/
theorem both_one {a b : BitVec 1} (h : IntOp.andi a b = 1#1) : a = 1#1 ∧ b = 1#1 := by
  revert a b; decide

/-- A disjunction of bits is one only where one of them is. -/
theorem either_one {a b : BitVec 1} (h : IntOp.ori a b = 1#1) : a = 1#1 ∨ b = 1#1 := by
  revert a b; decide

/-- The finite arrays: every element is a real number. -/
theorem finite_at (X : FVec Ideal Pre_finite.S256x3x1024x25 .f32) (h : Pre_finite.fn X = fun _ => 1#1)
    (n : Fin 256) (a : Fin 3) (t : Fin 1024) (v : Fin 25) : ∃ r : ℝ, X (ix4 n a t v) = (r : EReal) := by
  have e := congrFun h (ix4 n a t v)
  revert e
  pointwise [Pre_finite.fn]
  exact fun e => real_of_abs_lt _ (bit_one e)

/-- The generic arrays are finite. -/
theorem generic_finite (X : FVec Ideal Pre_generic.S256x3x1024x25 .f32) (h : (Pre_generic.fn X).1 = fun _ => 1#1)
    (n : Fin 256) (a : Fin 3) (t : Fin 1024) (v : Fin 25) : ∃ r : ℝ, X (ix4 n a t v) = (r : EReal) := by
  have e := congrFun h (ix4 n a t v)
  revert e
  pointwise [Pre_generic.fn, Pre_generic.fn_part1]
  exact fun e => real_of_abs_lt _ (bit_one e)

/-- What a generic array says of the three coordinates of one joint. -/
theorem generic_at (X : FVec Ideal Pre_generic.S256x3x1024x25 .f32) (h : (Pre_generic.fn X).2 = fun _ => 1#1)
    (n : Fin 256) (t : Fin 1024) (v : Fin 25) {x y z : ℝ} (hx : X (ix4 n 0 t v) = (x : EReal)) (hy : X (ix4 n 1 t v) = (y : EReal))
    (hz : X (ix4 n 2 t v) = (z : EReal)) :
    x + eps ≠ 0 ∧ y + eps ≠ 0 ∧ 4 * ((x + eps) * (x + eps)) ≠ (y + eps) * (y + eps) ∧
      (0 ≤ z + eps ∨ 3 * ((z + eps) * (z + eps)) ≠ radius x y * radius x y) := by
  have e := congrFun h (ix4 n 0 t v)
  revert e
  pointwise [Pre_generic.fn, Pre_generic.fn_part1]
  rw [hx, hy, hz, radius_lift, add_eps, add_eps, add_eps, lit_three, lit_four]
  simp only [← EReal.coe_mul, ne_eq, EReal.coe_eq_coe_iff, EReal.coe_eq_zero, EReal.coe_nonneg]
  intro e
  obtain ⟨e, e4⟩ := both_one e
  obtain ⟨e, e3⟩ := both_one e
  obtain ⟨e1, e2⟩ := both_one e
  exact ⟨bit_one e1, bit_one e2, bit_one e3, (either_one e4).imp bit_one bit_one⟩

/-- The width of the band about pi/3, against the square of the distance from the axis. -/
def band : ℝ := 3298535 / 1099511627776

/-- The literal 3e-6. -/
theorem lit_band : Ideal.ofBits .f32 0x3649539C#32 = ((band : ℝ) : EReal) := by
  simp [Ideal.ofBits, Ideal.ieee, -EReal.coe_mul, -EReal.coe_neg, band]; norm_num

/-- The clear arrays are finite. -/
theorem clear_finite (X : FVec Ideal Pre_clear.S256x3x1024x25 .f32) (h : (Pre_clear.fn X).1 = fun _ => 1#1)
    (n : Fin 256) (a : Fin 3) (t : Fin 1024) (v : Fin 25) : ∃ r : ℝ, X (ix4 n a t v) = (r : EReal) := by
  have e := congrFun h (ix4 n a t v)
  revert e
  pointwise [Pre_clear.fn, Pre_clear.fn_part1, Pre_clear.fn_part2]
  exact fun e => real_of_abs_lt _ (bit_one e)

section Clear

variable (X : FVec Ideal Pre_clear.S256x3x1024x25 .f32) (n : Fin 256) (t : Fin 1024) (v : Fin 25) {x y z : ℝ}
variable (hx : X (ix4 n 0 t v) = (x : EReal)) (hy : X (ix4 n 1 t v) = (y : EReal)) (hz : X (ix4 n 2 t v) = (z : EReal))

include hx hy hz

/-- The clear arrays are generic. -/
theorem clear_at (h : (Pre_clear.fn X).2.1 = fun _ => 1#1) :
    x + eps ≠ 0 ∧ y + eps ≠ 0 ∧ 4 * ((x + eps) * (x + eps)) ≠ (y + eps) * (y + eps) ∧
      (0 ≤ z + eps ∨ 3 * ((z + eps) * (z + eps)) ≠ radius x y * radius x y) := by
  have e := congrFun h (ix4 n 0 t v)
  revert e
  pointwise [Pre_clear.fn, Pre_clear.fn_part1, Pre_clear.fn_part2]
  rw [hx, hy, hz, radius_lift, add_eps, add_eps, add_eps, lit_three, lit_four]
  simp only [← EReal.coe_mul, ne_eq, EReal.coe_eq_coe_iff, EReal.coe_eq_zero, EReal.coe_nonneg]
  intro e
  obtain ⟨e, e4⟩ := both_one e
  obtain ⟨e, e3⟩ := both_one e
  obtain ⟨e1, e2⟩ := both_one e
  exact ⟨bit_one e1, bit_one e2, bit_one e3, (either_one e4).imp bit_one bit_one⟩

/-- The clear arrays stay out of the band. -/
theorem clear_band (h : (Pre_clear.fn X).2.2 = fun _ => 1#1) :
    z + eps < 0 ∨ band * (radius x y * radius x y + (z + eps) * (z + eps))
      < |radius x y * radius x y - 3 * ((z + eps) * (z + eps))| := by
  have e := congrFun h (ix4 n 0 t v)
  revert e
  pointwise [Pre_clear.fn, Pre_clear.fn_part1, Pre_clear.fn_part2]
  rw [hx, hy, hz, radius_lift, add_eps, lit_three, lit_band]
  simp only [← EReal.coe_mul, ← EReal.coe_add, ← EReal.coe_sub, abs_lift, EReal.coe_lt_coe_iff, neg_lift]
  exact fun e => (either_one e).imp bit_one bit_one

end Clear

/-- The mask's channels are those of order zero. -/
theorem signs_at (n : Fin 256) (k : Fin 10) (v w : Fin 25) (X : FVec Ideal On_signs.S256x3x1024x25 .f32)
    (h : On_signs.fn X (ix4 n k v w) = 1#1) : k = 0 ∨ k = 1 ∨ k = 3 ∨ k = 6 := by
  revert h
  pointwise [On_signs.fn]
  revert k
  decide

end Cert.Own

end
-- ==== Proof.Equation.lean ====
module

public import proofs.«01_k».proof.Proof.ArctanPoint
public import proofs.«01_k».proof.Proof.KernelPoint
public import proofs.«01_k».proof.Proof.RefPoint
public import proofs.«01_k».proof.Proof.Conditions

/-! # The Gram matrices of the two kernels and of the reference

An entry of the result is a sum of products of two phases. The kernel's phase is the reference's times the channel's
sign `flip k`, and the two signs of a product cancel. -/

@[expose] public section

noncomputable section

namespace Cert.Own

open Idealize.ShloMosaic Cert.ReferenceIdeal.Own Cert.ReferenceIdeal.Read

/-- With the arctangent itself, the kernel's phase is the reference's times a sign. -/
theorem phases_arctan {x y z : ℝ} (h : x + eps ≠ 0 ∧ y + eps ≠ 0 ∧ 4 * ((x + eps) * (x + eps)) ≠ (y + eps) * (y + eps) ∧
      (0 ≤ z + eps ∨ 3 * ((z + eps) * (z + eps)) ≠ radius x y * radius x y)) (k : Fin 10) :
    phases Real.arctan x y z k = flip k * exact x y z k := by
  rw [phases, fold_arctan (radius_pos x y)]
  exact fast_eq (norm_pos k) (sine_pos _) (radius_pos x y) h.1 h.2.1 h.2.2.1 h.2.2.2 k

/-- In the channels of order zero the angle plays no part. -/
theorem phases_real (A : ℝ → ℝ) (x y z : ℝ) (k : Fin 10) (hk : k = 0 ∨ k = 1 ∨ k = 3 ∨ k = 6) :
    phases A x y z k = flip k * exact x y z k :=
  fast_real (norm_pos k) k hk

/-- Equal signs cancel in a product of two phases. -/
theorem product_eq {p q a b f : ℝ} (hf : f * f = 1) (hp : p = f * a) (hq : q = f * b) :
    ((p : ℝ) : EReal) * (q : EReal) = ((a : ℝ) : EReal) * (b : EReal) := by
  rw [← EReal.coe_mul, ← EReal.coe_mul, hp, hq]
  congr 1
  linear_combination a * b * hf

/-- One entry of the reference's result. -/
theorem reference_entry (X : (⟨Cert.ReferenceIdeal.S256x3x1024x25, .f32⟩ : BufTy).Contents (Elt Ideal)) (n : Fin 256) (k : Fin 10) (v w : Fin 25) :
    val_main_v194 X (ix4 n k v w) = ∑ t : Fin 1024,
      val_main_v193 X (ix4 n k t v) * val_main_v193 X (ix4 n k t w) := by
  rw [val_main_v194_apply]
  have l (t : Fin 1024) : lidx_main_v194 (ix4 n k v w) t = ix4 n k t v := eq_ix4 _
  have r (t : Fin 1024) : ridx_main_v194 (ix4 n k v w) t = ix4 n k t w := eq_ix4 _
  simp only [l, r]

/-- On the generic arrays the kernel with the arctangent computes the reference. -/
theorem arctan_result (X : (⟨Cert.ReferenceIdeal.S256x3x1024x25, .f32⟩ : BufTy).Contents (Elt Ideal))
    (h : (Pre_generic.fn (F := Ideal) X).1 = (fun _ => 1#1) ∧ (Pre_generic.fn (F := Ideal) X).2 = (fun _ => 1#1)) :
    Cert.ArctanIdeal.Own.result X = val_main_v194 X := by
  funext i
  obtain ⟨n, k, v, w, rfl⟩ : ∃ (n : Fin 256) (k : Fin 10) (v : Fin 25) (w : Fin 25), i = ix4 n k v w := ⟨i 0, i 1, i 2, i 3, eq_ix4 i⟩
  rw [reference_entry]
  refine Finset.sum_congr rfl fun t _ => ?_
  have side (u : Fin 25) : ∃ p a : ℝ, p = flip k * a
      ∧ Cert.ArctanIdeal.Own.point k (X (ix4 n 0 t u)) (X (ix4 n 1 t u)) (X (ix4 n 2 t u)) = (p : EReal)
      ∧ val_main_v193 X (ix4 n k t u) = (a : EReal) := by
    obtain ⟨x, hx⟩ := generic_finite X h.1 n 0 t u
    obtain ⟨y, hy⟩ := generic_finite X h.1 n 1 t u
    obtain ⟨z, hz⟩ := generic_finite X h.1 n 2 t u
    refine ⟨_, _, phases_arctan (generic_at X h.2 n t u hx hy hz) k, ?_, phase_at X n t u hx hy hz k⟩
    rw [hx, hy, hz, Cert.ArctanIdeal.Own.point_coe]
  obtain ⟨p, a, e, hp, ha⟩ := side v
  obtain ⟨q, b, f, hq, hb⟩ := side w
  rw [ha, hb, ← product_eq (flip_mul k) e f, ← hp, ← hq]
  rfl

/-- On the finite arrays the kernel computes the reference in the channels of order zero. -/
theorem kernel_result (X : (⟨Cert.ReferenceIdeal.S256x3x1024x25, .f32⟩ : BufTy).Contents (Elt Ideal))
    (h : Pre_finite.fn (F := Ideal) X = fun _ => 1#1) (i : Cert.ReferenceIdeal.S256x10x25x25.Idx)
    (hi : On_signs.fn (F := Ideal) X i = 1#1) :
    Cert.KernelIdeal.Own.result X i = val_main_v194 X i := by
  obtain ⟨n, k, v, w, rfl⟩ : ∃ (n : Fin 256) (k : Fin 10) (v : Fin 25) (w : Fin 25), i = ix4 n k v w := ⟨i 0, i 1, i 2, i 3, eq_ix4 i⟩
  have hk := signs_at n k v w X hi
  rw [reference_entry]
  refine Finset.sum_congr rfl fun t _ => ?_
  have side (u : Fin 25) : ∃ p a : ℝ, p = flip k * a
      ∧ Cert.KernelIdeal.Own.point k (X (ix4 n 0 t u)) (X (ix4 n 1 t u)) (X (ix4 n 2 t u)) = (p : EReal)
      ∧ val_main_v193 X (ix4 n k t u) = (a : EReal) := by
    obtain ⟨x, hx⟩ := finite_at X h n 0 t u
    obtain ⟨y, hy⟩ := finite_at X h n 1 t u
    obtain ⟨z, hz⟩ := finite_at X h n 2 t u
    refine ⟨_, _, phases_real poly x y z k hk, ?_, phase_at X n t u hx hy hz k⟩
    rw [hx, hy, hz, Cert.KernelIdeal.Own.point_coe]
  obtain ⟨p, a, e, hp, ha⟩ := side v
  obtain ⟨q, b, f, hq, hb⟩ := side w
  rw [ha, hb, ← product_eq (flip_mul k) e f, ← hp, ← hq]
  rfl

end Cert.Own

end
-- ==== Proof.Slope.lean ====
module

public import Mathlib.Analysis.SpecialFunctions.Trigonometric.DerivHyp
public import Mathlib.Analysis.SpecialFunctions.Trigonometric.Arctan
public import Mathlib.Analysis.Calculus.Deriv.Inv
public import Mathlib.Analysis.Calculus.Deriv.Inverse
public import Mathlib.Analysis.Calculus.Deriv.MeanValue

/-! # The derivative of the arctangent

The sine and the cosine are the hyperbolic ones on the imaginary axis; the arctangent inverts their quotient. -/

@[expose] public section

noncomputable section

namespace Cert.Own

/-- The sine's derivative is the cosine. -/
theorem sin_slope (x : ℝ) : HasDerivAt Real.sin (Real.cos x) x := by
  have h : HasDerivAt (fun z : ℂ => -Complex.sinh (z * Complex.I) * Complex.I)
      (-(Complex.cosh ((x : ℂ) * Complex.I) * Complex.I) * Complex.I) (x : ℂ) :=
    (((Complex.hasDerivAt_sinh _).comp (x : ℂ) (hasDerivAt_mul_const Complex.I)).neg).mul_const _
  have e : (fun z : ℂ => -Complex.sinh (z * Complex.I) * Complex.I) = Complex.sin := by
    funext z
    rw [Complex.sinh_mul_I, neg_mul, mul_assoc, Complex.I_mul_I]
    ring
  rw [e] at h
  have r := h.real_of_complex
  refine r.congr_deriv ?_
  rw [Complex.cosh_mul_I, neg_mul, mul_assoc, Complex.I_mul_I, mul_neg_one, neg_neg, Complex.cos_ofReal_re]

/-- The cosine's derivative is the negated sine. -/
theorem cos_slope (x : ℝ) : HasDerivAt Real.cos (-Real.sin x) x := by
  have h : HasDerivAt (fun z : ℂ => Complex.cosh (z * Complex.I)) (Complex.sinh ((x : ℂ) * Complex.I) * Complex.I) (x : ℂ) :=
    (Complex.hasDerivAt_cosh _).comp (x : ℂ) (hasDerivAt_mul_const Complex.I)
  have e : (fun z : ℂ => Complex.cosh (z * Complex.I)) = Complex.cos := by
    funext z
    rw [Complex.cosh_mul_I]
  rw [e] at h
  have r := h.real_of_complex
  refine r.congr_deriv ?_
  rw [Complex.sinh_mul_I, mul_assoc, Complex.I_mul_I, mul_neg_one, Complex.neg_re, Complex.sin_ofReal_re]

/-- The derivative of the arctangent. -/
theorem arctan_slope (x : ℝ) : HasDerivAt Real.arctan (1 / (1 + x ^ 2)) x := by
  have c : Real.cos (Real.arctan x) ≠ 0 := (Real.cos_arctan_pos x).ne'
  have q : Real.cos (Real.arctan x) ^ 2 = 1 / (1 + x ^ 2) := Real.cos_sq_arctan x
  have t : HasDerivAt Real.tan (1 / Real.cos (Real.arctan x) ^ 2) (Real.arctan x) := by
    have h := (sin_slope (Real.arctan x)).div (cos_slope (Real.arctan x)) c
    have e : (Real.sin / Real.cos) = Real.tan := by
      funext y
      simp [Real.tan_eq_sin_div_cos]
    rw [e] at h
    refine h.congr_deriv ?_
    congr 1
    have := Real.sin_sq_add_cos_sq (Real.arctan x)
    linear_combination this
  have h := HasDerivAt.of_local_left_inverse Real.continuous_arctan.continuousAt t (one_div_ne_zero (pow_ne_zero 2 c))
    (Filter.Eventually.of_forall fun y => Real.tan_arctan y)
  refine h.congr_deriv ?_
  rw [q]
  simp

/-- The sine is no larger than its argument. -/
theorem sin_small (x : ℝ) : |Real.sin x| ≤ |x| := by
  have up : Monotone fun x => x - Real.sin x := by
    refine monotone_of_deriv_nonneg (fun x => ((hasDerivAt_id' x).fun_sub (sin_slope x)).differentiableAt) fun x => ?_
    rw [((hasDerivAt_id' x).fun_sub (sin_slope x)).deriv]
    exact sub_nonneg.mpr (Real.cos_le_one x)
  have down : Monotone fun x => x + Real.sin x := by
    refine monotone_of_deriv_nonneg (fun x => ((hasDerivAt_id' x).fun_add (sin_slope x)).differentiableAt) fun x => ?_
    rw [((hasDerivAt_id' x).fun_add (sin_slope x)).deriv]
    have := Real.neg_one_le_cos x
    linarith
  rcases le_total 0 x with h | h
  · have u := up h
    have d := down h
    simp only [Real.sin_zero] at u d
    rw [abs_of_nonneg h, abs_le]
    constructor <;> linarith
  · have u := up h
    have d := down h
    simp only [Real.sin_zero] at u d
    rw [abs_of_nonpos h, abs_le]
    constructor <;> linarith

end Cert.Own

end
-- ==== Proof.Gap.lean ====
module

public import proofs.«01_k».proof.Proof.Lift
public import proofs.«01_k».proof.Proof.Slope

/-! # How far the kernel's polynomial lies from the arctangent

On `[0, 1]` the polynomial differs from the arctangent by at most `gap`. The difference has the derivative
`slope q / (1 + q ^ 2)`, where `slope` is a small polynomial. For every positive `l` the absolute value of this derivative is
at most `(slope q ^ 2 / l + l) * (1 - q ^ 2 / 2) / 2`, whose integral `budget l` is a polynomial; two values of `l`, one on each
side of 9/10, give the bound. -/

@[expose] public section

noncomputable section

namespace Cert.Own

open Finset

/-- The coefficient of `q ^ (2 * k + 1)` in the kernel's polynomial. -/
def term : ℕ → ℝ
  | 0 => 1
  | 1 => coef 7
  | 2 => coef 6
  | 3 => coef 5
  | 4 => coef 4
  | 5 => coef 3
  | 6 => coef 2
  | 7 => coef 1
  | 8 => coef 0
  | _ => 0

/-- The coefficient of `q ^ (2 * k)` in `p q * (1 + q ^ 2) - 1`, where `p` is the derivative of `poly`. -/
def dev : ℕ → ℝ
  | 0 => 0
  | k + 1 => (2 * (k + 1) + 1) * term (k + 1) + (2 * k + 1) * term k

/-- `p q * (1 + q ^ 2) - 1`, where `p` is the derivative of `poly`. -/
def slope (q : ℝ) : ℝ := ∑ k ∈ range 10, dev k * q ^ (2 * k)

/-- The polynomial as a sum of monomials. -/
theorem poly_sum (q : ℝ) : poly q = ∑ k ∈ range 9, term k * q ^ (2 * k + 1) := by
  simp only [poly, term, sum_range_succ, sum_range_zero]
  ring

/-- `slope` from the derivative of that sum. -/
theorem slope_eq (q : ℝ) : slope q = (∑ k ∈ range 9, term k * ((2 * k + 1 : ℕ) * q ^ (2 * k))) * (1 + q ^ 2) - 1 := by
  simp only [slope, dev, term, sum_range_succ, sum_range_zero]
  push_cast
  ring

/-- The polynomial's error has the derivative `slope q / (1 + q ^ 2)`. -/
theorem error_deriv (q : ℝ) : HasDerivAt (fun q => poly q - Real.arctan q) (slope q / (1 + q ^ 2)) q := by
  have h : HasDerivAt (fun q : ℝ => ∑ k ∈ range 9, term k * q ^ (2 * k + 1))
      (∑ k ∈ range 9, term k * ((2 * k + 1 : ℕ) * q ^ (2 * k))) q :=
    HasDerivAt.fun_sum fun k _ => (hasDerivAt_pow (2 * k + 1) q).const_mul _
  have e := h.sub (arctan_slope q)
  have p : (0 : ℝ) < 1 + q ^ 2 := by positivity
  refine (e.congr_deriv ?_).congr_of_eventuallyEq (Filter.Eventually.of_forall fun q => ?_)
  · rw [slope_eq, sub_div, mul_div_assoc, div_self p.ne', mul_one]
  · simp [poly_sum]

/-- The integral of `slope ^ 2 * (1 - q ^ 2 / 2)` from zero. -/
def area (q : ℝ) : ℝ := ∑ i ∈ range 10, ∑ j ∈ range 10, dev i * dev j *
  (q ^ (2 * (i + j) + 1) / (2 * (i + j) + 1) - q ^ (2 * (i + j) + 3) / (2 * (2 * (i + j) + 3)))

/-- The derivative of `area`. -/
theorem area_deriv (q : ℝ) : HasDerivAt area (slope q ^ 2 * (1 - q ^ 2 / 2)) q := by
  have h : HasDerivAt area (∑ i ∈ range 10, ∑ j ∈ range 10, dev i * dev j *
      (((2 * (i + j) + 1 : ℕ) * q ^ (2 * (i + j))) / (2 * (i + j) + 1)
        - ((2 * (i + j) + 3 : ℕ) * q ^ (2 * (i + j) + 2)) / (2 * (2 * (i + j) + 3)))) q :=
    HasDerivAt.fun_sum fun i _ => HasDerivAt.fun_sum fun j _ =>
      (((hasDerivAt_pow (2 * (i + j) + 1) q).div_const _).sub ((hasDerivAt_pow (2 * (i + j) + 3) q).div_const _)).const_mul _
  refine h.congr_deriv ?_
  rw [slope, sq, sum_mul_sum, sum_mul]
  refine sum_congr rfl fun i _ => ?_
  rw [sum_mul]
  refine sum_congr rfl fun j _ => ?_
  push_cast
  field_simp
  ring

/-- A bound of the error's variation from zero to `q`, for each positive `l`. -/
def budget (l q : ℝ) : ℝ := (area q / l + l * (q - q ^ 3 / 6)) / 2

/-- The derivative of `budget`. -/
theorem budget_deriv (l q : ℝ) : HasDerivAt (budget l) ((slope q ^ 2 * (1 - q ^ 2 / 2) / l + l * (1 - q ^ 2 / 2)) / 2) q := by
  have h := (((area_deriv q).div_const l).add (((hasDerivAt_id q).sub ((hasDerivAt_pow 3 q).div_const 6)).const_mul l)).div_const 2
  refine h.congr_deriv ?_
  push_cast
  ring

/-- The error's derivative is at most the budget's. -/
theorem slope_le {l q : ℝ} (hl : 0 < l) (h0 : 0 ≤ q) (h1 : q ≤ 1) :
    |slope q / (1 + q ^ 2)| ≤ (slope q ^ 2 * (1 - q ^ 2 / 2) / l + l * (1 - q ^ 2 / 2)) / 2 := by
  have p : (0 : ℝ) < 1 + q ^ 2 := by positivity
  have z0 : 0 ≤ q ^ 2 := sq_nonneg q
  have z1 : q ^ 2 ≤ 1 := pow_le_one₀ h0 h1
  have w : 1 / (1 + q ^ 2) ≤ 1 - q ^ 2 / 2 := by
    rw [div_le_iff₀ p]
    nlinarith
  have t : |slope q| ≤ (slope q ^ 2 / l + l) / 2 := by
    have e : (slope q ^ 2 / l + l) / 2 - |slope q| = (|slope q| - l) ^ 2 / (2 * l) := by
      rw [← sq_abs (slope q)]
      field_simp
      ring
    have : 0 ≤ (|slope q| - l) ^ 2 / (2 * l) := div_nonneg (sq_nonneg _) (by linarith)
    linarith
  rw [abs_div, abs_of_pos p, div_eq_mul_one_div]
  calc |slope q| * (1 / (1 + q ^ 2)) ≤ |slope q| * (1 - q ^ 2 / 2) := mul_le_mul_of_nonneg_left w (abs_nonneg _)
    _ ≤ (slope q ^ 2 / l + l) / 2 * (1 - q ^ 2 / 2) := mul_le_mul_of_nonneg_right t (by linarith)
    _ = _ := by ring

/-- Between two points of `[0, 1]` the error changes by no more than the budget. -/
theorem error_step {l a q : ℝ} (hl : 0 < l) (ha : 0 ≤ a) (haq : a ≤ q) (hq : q ≤ 1) :
    |(poly q - Real.arctan q) - (poly a - Real.arctan a)| ≤ budget l q - budget l a := by
  have up : MonotoneOn (fun q => budget l q - (poly q - Real.arctan q)) (Set.Icc 0 1) := by
    refine monotoneOn_of_deriv_nonneg (convex_Icc 0 1)
      (fun x _ => ((budget_deriv l x).sub (error_deriv x)).continuousAt.continuousWithinAt)
      (fun x _ => ((budget_deriv l x).sub (error_deriv x)).differentiableAt.differentiableWithinAt) fun x hx => ?_
    rw [interior_Icc] at hx
    rw [((budget_deriv l x).fun_sub (error_deriv x)).deriv]
    have := slope_le hl hx.1.le hx.2.le
    rw [abs_le] at this
    linarith
  have down : MonotoneOn (fun q => budget l q + (poly q - Real.arctan q)) (Set.Icc 0 1) := by
    refine monotoneOn_of_deriv_nonneg (convex_Icc 0 1)
      (fun x _ => ((budget_deriv l x).add (error_deriv x)).continuousAt.continuousWithinAt)
      (fun x _ => ((budget_deriv l x).add (error_deriv x)).differentiableAt.differentiableWithinAt) fun x hx => ?_
    rw [interior_Icc] at hx
    rw [((budget_deriv l x).fun_add (error_deriv x)).deriv]
    have := slope_le hl hx.1.le hx.2.le
    rw [abs_le] at this
    linarith
  have u := up ⟨ha, haq.trans hq⟩ ⟨ha.trans haq, hq⟩ haq
  have d := down ⟨ha, haq.trans hq⟩ ⟨ha.trans haq, hq⟩ haq
  simp only at u d
  rw [abs_le]
  constructor <;> linarith

/-- The bound of the polynomial's error. -/
def gap : ℝ := 32 / 100000000

/-- The budget starts at zero. -/
theorem budget_zero (l : ℝ) : budget l 0 = 0 := by
  simp [budget, area]

set_option maxRecDepth 4000 in
/-- The budgets of `[0, 9/10]` and of `[9/10, 1]` together are at most `gap`. -/
theorem budget_total : budget (25 / 100000000) (9 / 10) + (budget (23 / 10000000) 1 - budget (23 / 10000000) (9 / 10)) ≤ gap := by
  simp only [budget, area, dev, term, coef, sum_range_succ, sum_range_zero, gap]
  norm_num

/-- On `[0, 1]` the kernel's polynomial lies within `gap` of the arctangent. -/
theorem poly_near {q : ℝ} (h0 : 0 ≤ q) (h1 : q ≤ 1) : |poly q - Real.arctan q| ≤ gap := by
  have l1 : (0 : ℝ) < 25 / 100000000 := by norm_num
  have l2 : (0 : ℝ) < 23 / 10000000 := by norm_num
  have z : poly 0 - Real.arctan 0 = 0 := by simp [poly]
  have t := budget_total
  have whole := (abs_nonneg _).trans (error_step l2 (by norm_num : (0 : ℝ) ≤ 9 / 10) (by norm_num) le_rfl)
  rcases le_total q (9 / 10) with h | h
  · have s := error_step l1 le_rfl h0 h1
    have r := (abs_nonneg _).trans (error_step l1 h0 h (by norm_num))
    rw [z, sub_zero, budget_zero] at s
    linarith
  · have s := error_step l1 le_rfl (by norm_num : (0 : ℝ) ≤ 9 / 10) (by norm_num)
    have u := error_step l2 (by norm_num) h h1
    have r := (abs_nonneg _).trans (error_step l2 h0 h1 le_rfl)
    rw [z, sub_zero, budget_zero] at s
    have v := abs_add_le (poly q - Real.arctan q - (poly (9 / 10) - Real.arctan (9 / 10))) (poly (9 / 10) - Real.arctan (9 / 10))
    rw [sub_add_cancel] at v
    linarith

/-- The polynomial is positive on `(0, 1]`. -/
theorem poly_pos {q : ℝ} (h0 : 0 < q) (h1 : q ≤ 1) : 0 < poly q := by
  have z0 : 0 ≤ q * q := mul_self_nonneg q
  have z1 : q * q ≤ 1 := by nlinarith
  have low {h c : ℝ} (hc : 0 ≤ c + h) (hn : 0 ≤ c) : 0 ≤ h * (q * q) + c := by nlinarith
  have high {h c : ℝ} (hh : 0 ≤ h) : c ≤ h * (q * q) + c := by nlinarith
  unfold poly
  have a1 := high (h := coef 0) (c := coef 1) (by norm_num [coef])
  have a2 := low (h := coef 0 * (q * q) + coef 1) (c := coef 2) (by norm_num [coef] at a1 ⊢; linarith) (by norm_num [coef])
  have a3 := high (c := coef 3) a2
  have a4 := low (c := coef 4) (le_trans (by norm_num [coef]) (add_le_add_right a3 (coef 4))) (by norm_num [coef])
  have a5 := high (c := coef 5) a4
  have a6 := low (c := coef 6) (le_trans (by norm_num [coef]) (add_le_add_right a5 (coef 6))) (by norm_num [coef])
  have a7 := high (c := coef 7) a6
  have c7 : -(1 / 2) ≤ coef 7 := by norm_num [coef]
  refine mul_pos ?_ h0
  nlinarith

end Cert.Own

end
-- ==== Proof.Close.lean ====
module

public import proofs.«01_k».proof.Proof.Gap
public import proofs.«01_k».proof.Proof.Equation

/-! # How far the kernel's phases lie from the reference's

With the polynomial for the arctangent the polar angle is off by at most `gap`, and a phase by at most three times
that, so long as the polynomial's angle passes pi/2 and pi/3 where the angle does. At pi/2 it always does. At
pi/3 it does outside a narrow band. -/

@[expose] public section

noncomputable section

namespace Cert.Own

open Real Cert.ReferenceIdeal.Own

/-- The gap is not negative. -/
theorem gap_nonneg : 0 ≤ gap := by norm_num [gap]

/-- Equal decisions keep two wrapped angles as near as they were. -/
theorem wrap_near {a b e : ℝ} (h : |a - b| ≤ e) (hw : π < a ↔ π < b) : |wrap a - wrap b| ≤ e := by
  unfold wrap
  by_cases hb : π < b
  · rw [if_pos hb, if_pos (hw.mpr hb)]
    ring_nf at h ⊢
    exact h
  · rw [if_neg hb, if_neg fun ha => hb (hw.mp ha)]
    exact h

section Fold

variable {s c : ℝ} (hs : 0 < s)

include hs

/-- The quotient that is handed to the arctangent is not negative. -/
theorem quot_nonneg : 0 ≤ min s |c| / max s |c| := div_nonneg (le_min hs.le (abs_nonneg c)) (hs.le.trans (le_max_left _ _))

/-- The quotient that is handed to the arctangent is at most 1. -/
theorem quot_le_one : min s |c| / max s |c| ≤ 1 :=
  div_le_one_of_le₀ (min_le_left _ _ |>.trans (le_max_left _ _)) (hs.le.trans (le_max_left _ _))

/-- The polynomial's angle is off by at most `gap`. -/
theorem fold_near : |fold poly s c - angle s c| ≤ gap := by
  have h := poly_near (quot_nonneg (c := c) hs) (quot_le_one hs)
  rw [← fold_arctan hs, fold, fold]
  rw [abs_le] at h ⊢
  split_ifs <;> constructor <;> linarith

/-- The polynomial stays below pi/2. -/
theorem poly_lt : poly (min s |c| / max s |c|) < π / 2 := by
  have h := (abs_le.mp (poly_near (quot_nonneg (c := c) hs) (quot_le_one hs))).2
  have a : arctan (min s |c| / max s |c|) ≤ π / 4 := by
    rw [← arctan_one]
    exact arctan_strictMono.monotone (quot_le_one hs)
  have := two_le_pi
  norm_num [gap] at h
  linarith

/-- The polynomial's angle is past pi/2 where the angle is. -/
theorem fold_half : π < 2 * fold poly s c ↔ c < 0 := by
  have u := poly_lt (c := c) hs
  have hp := pi_pos
  constructor
  · intro h
    by_contra hc
    have hc := not_lt.mp hc
    have n : 0 ≤ poly (min s |c| / max s |c|) := by
      rcases (quot_nonneg (c := c) hs).eq_or_lt with e | e
      · rw [← e]; simp [poly]
      · exact (poly_pos e (quot_le_one hs)).le
    rw [fold, if_pos hc] at h
    split_ifs at h <;> linarith
  · intro h
    have q : 0 < min s |c| / max s |c| := div_pos (lt_min hs (abs_pos.mpr h.ne)) (hs.trans_le (le_max_left _ _))
    have n := poly_pos q (quot_le_one hs)
    rw [fold, if_neg (not_le.mpr h)]
    split_ifs <;> linarith

/-- The angle is past pi/2 where its cosine is negative. -/
theorem angle_half : π < 2 * angle s c ↔ c < 0 := by
  have h := angle_le_half (c := c) hs
  rw [← not_le, ← not_le (a := (0 : ℝ)), ← h]
  constructor <;> intro h h' <;> apply h <;> linarith

/-- Outside the band the angle is further than `gap` from pi/3. -/
theorem angle_far {β : ℝ} (hβ : 6 * gap < β) (hc : 0 ≤ c) (h : β * (s * s + c * c) < |s * s - 3 * (c * c)|) :
    gap < |angle s c - π / 3| := by
  obtain ⟨r, hr, ec, es, h1, h2⟩ := polar (c := c) hs
  set t := angle s c with ht
  have hp := pi_pos
  have half : t ≤ π / 2 := (angle_le_half hs).mpr hc
  have c0 : 0 ≤ cos t := cos_nonneg_of_neg_pi_div_two_le_of_le (by linarith) half
  have c1 : cos t ≤ 1 := cos_le_one t
  have sc := sin_sq_add_cos_sq t
  have e1 : s * s + c * c = r * r := by rw [← ec, ← es]; linear_combination r * r * sc
  have e2 : s * s - 3 * (c * c) = r * r * ((1 - 2 * cos t) * (1 + 2 * cos t)) := by
    rw [← ec, ← es]; linear_combination r * r * sc
  have rr : 0 < r * r := mul_pos hr hr
  rw [e1, e2, abs_mul, abs_of_pos rr, mul_comm β, abs_mul, abs_of_nonneg (by linarith : 0 ≤ 1 + 2 * cos t)] at h
  have h3 := lt_of_mul_lt_mul_left h rr.le
  have h4 : |1 - 2 * cos t| * (1 + 2 * cos t) ≤ |1 - 2 * cos t| * 3 :=
    mul_le_mul_of_nonneg_left (by linarith) (abs_nonneg _)
  have h5 : |1 - 2 * cos t| ≤ 2 * |t - π / 3| := by
    have d := cos_sub_cos (π / 3) t
    have a1 : |sin ((π / 3 + t) / 2)| ≤ 1 := abs_sin_le_one _
    have a2 : |sin ((π / 3 - t) / 2)| ≤ |(π / 3 - t) / 2| := sin_small _
    have e : 1 - 2 * cos t = -4 * sin ((π / 3 + t) / 2) * sin ((π / 3 - t) / 2) := by
      rw [cos_pi_div_three] at d
      linarith
    have e3 : |(π / 3 - t) / 2| = |t - π / 3| / 2 := by rw [abs_div, abs_sub_comm, abs_two]
    rw [e, abs_mul, abs_mul, abs_neg, abs_of_pos (by norm_num : (0 : ℝ) < 4)]
    rw [e3] at a2
    have := mul_le_mul a1 a2 (abs_nonneg _) zero_le_one
    linarith
  linarith

/-- Outside the band the polynomial's angle is past pi/3 where the angle is. -/
theorem fold_third {β : ℝ} (hβ : 6 * gap < β) (h : c < 0 ∨ β * (s * s + c * c) < |s * s - 3 * (c * c)|) :
    π < 3 * fold poly s c ↔ π < 3 * angle s c := by
  have hp := pi_pos
  rcases lt_or_ge c 0 with hc | hc
  · have a := (fold_half hs).mpr hc
    have b := (angle_half hs).mpr hc
    constructor <;> intro <;> linarith
  · have f := angle_far hs hβ hc (h.resolve_left (not_lt.mpr hc))
    have n := abs_le.mp (fold_near (c := c) hs)
    rcases lt_abs.mp f with g | g
    · constructor <;> intro <;> linarith
    · constructor <;> intro <;> linarith

/-- Each of the kernel's phases is off by at most `3 * gap`. -/
theorem fast_near {β : ℝ} (hβ : 6 * gap < β) (h : c < 0 ∨ β * (s * s + c * c) < |s * s - 3 * (c * c)|) (x y : ℝ) (k : Fin 10) :
    |fast (fold poly s c) s c x y k - fast (angle s c) s c x y k| ≤ 3 * gap := by
  have g := gap_nonneg
  have n := fold_near (c := c) hs
  have zero (a : ℝ) : |a - a| ≤ 3 * gap := by rw [sub_self, abs_zero]; linarith
  have one : |fold poly s c - angle s c| ≤ 3 * gap := n.trans (by linarith)
  have shift {a b d : ℝ} (h : |a - b| ≤ 3 * gap) : |(a - d) - (b - d)| ≤ 3 * gap := by rwa [sub_sub_sub_cancel_right]
  have two : |wrap (2 * fold poly s c) - wrap (2 * angle s c)| ≤ 3 * gap := by
    refine wrap_near ?_ ((fold_half hs).trans (angle_half hs).symm)
    rw [← mul_sub, abs_mul, abs_two]
    linarith
  have three : |wrap (3 * fold poly s c) - wrap (3 * angle s c)| ≤ 3 * gap := by
    refine wrap_near ?_ (fold_third hs hβ h)
    rw [← mul_sub, abs_mul, abs_of_pos (by norm_num : (0 : ℝ) < 3)]
    linarith
  fin_cases k
  · exact zero _
  · exact zero _
  · exact shift one
  · exact zero _
  · show |(if 0 < x then fold poly s c - π else fold poly s c) - (if 0 < x then angle s c - π else angle s c)| ≤ _
    split_ifs
    · exact shift one
    · exact one
  · exact two
  · exact zero _
  · show |(if y * y < 4 * (x * x) then fold poly s c - π else fold poly s c)
      - (if y * y < 4 * (x * x) then angle s c - π else angle s c)| ≤ _
    split_ifs
    · exact shift one
    · exact one
  · show |(if x < 0 then wrap (2 * fold poly s c) - (if 0 ≤ c then π else -π) else wrap (2 * fold poly s c))
      - (if x < 0 then wrap (2 * angle s c) - (if 0 ≤ c then π else -π) else wrap (2 * angle s c))| ≤ _
    split_ifs
    · exact shift two
    · exact shift two
    · exact two
  · exact shift three

end Fold

/-- An angle is at most pi in absolute value. -/
theorem angle_bound (y x : ℝ) : |angle y x| ≤ π := by
  by_cases h : x = 0 ∧ y = 0
  · rw [h.1, h.2, angle_origin, abs_zero]
    exact pi_pos.le
  · obtain ⟨-, -, -, -, -, h1, h2⟩ := angle_spec h
    exact abs_le.mpr ⟨h1.le, h2⟩

/-- The product of two phases of one channel, each off by at most `3 * gap` and turned by one sign. -/
theorem product_near {f a b p q : ℝ} (hf : f * f = 1) (ha : |a| ≤ π) (hb : |b| ≤ π) (hp : |p - f * a| ≤ 3 * gap)
    (hq : |q - f * b| ≤ 3 * gap) : |p * q - a * b| ≤ 3 * gap * (2 * π + 3 * gap) := by
  have f1 : |f| = 1 := by
    have : |f| * |f| = 1 := by rw [abs_mul_abs_self, hf]
    nlinarith [abs_nonneg f]
  have fa : |f * a| ≤ π := by rwa [abs_mul, f1, one_mul]
  have fb : |f * b| ≤ π := by rwa [abs_mul, f1, one_mul]
  have g := gap_nonneg
  have e : p * q - a * b = (p - f * a) * (q - f * b) + (p - f * a) * (f * b) + f * a * (q - f * b) := by
    linear_combination a * b * hf
  have t1 : |(p - f * a) * (q - f * b)| ≤ 3 * gap * (3 * gap) := by
    rw [abs_mul]; exact mul_le_mul hp hq (abs_nonneg _) (by linarith)
  have t2 : |(p - f * a) * (f * b)| ≤ 3 * gap * π := by
    rw [abs_mul]; exact mul_le_mul hp fb (abs_nonneg _) (by linarith)
  have t3 : |f * a * (q - f * b)| ≤ π * (3 * gap) := by
    rw [abs_mul]; exact mul_le_mul fa hq (abs_nonneg _) pi_pos.le
  rw [e]
  have := abs_add_le ((p - f * a) * (q - f * b) + (p - f * a) * (f * b)) (f * a * (q - f * b))
  have := abs_add_le ((p - f * a) * (q - f * b)) ((p - f * a) * (f * b))
  linarith

end Cert.Own

end
-- ==== Proof.Near.lean ====
module

public import proofs.«01_k».proof.Proof.Gen.ReferenceIdeal.Read
public import proofs.«01_k».proof.Proof.Gen.Post_near
public import Idealize.ShloMosaic.Lib.Pointwise

/-! # The postcondition

It forms the reference's result once more. Its operations are the reference's, one by one, so that it compares the
distance of the kernel's array from the reference's last value with 1e-2. -/

@[expose] public section

noncomputable section

namespace Cert.Post_near.Own

open Idealize.ShloMosaic Cert.Post_near Cert.ReferenceIdeal.Read

/-- The postcondition in terms of the reference's last value. -/
theorem near_eq (X : (⟨Cert.ReferenceIdeal.S256x3x1024x25, .f32⟩ : BufTy).Contents (Elt Ideal)) (O : FVec Ideal Cert.Post_near.S256x10x25x25 .f32) :
    fn (F := Ideal) X O = cmpf .ole (Host.absf (subf O (val_main_v194 (F := Ideal) X))) (fun _ => Ideal.ofBits .f32 0x3C23D70A#32) := rfl

end Cert.Post_near.Own

end
-- ==== Proof.Distance.lean ====
module

public import proofs.«01_k».proof.Proof.Close
public import proofs.«01_k».proof.Proof.Near

/-! # How far the kernel's result lies from the reference's

An entry is a sum of 1024 products of two phases, each of them at most pi in absolute value and off by at most `3 * gap`. -/

@[expose] public section

noncomputable section

namespace Cert.Own

open Idealize.ShloMosaic Cert.ReferenceIdeal.Own Cert.ReferenceIdeal.Read

/-- The distance that the postcondition allows. -/
def allowed : ℝ := 5368709 / 536870912

/-- The literal 1e-2. -/
theorem lit_allowed : Ideal.ofBits .f32 0x3C23D70A#32 = ((allowed : ℝ) : EReal) := by
  simp [Ideal.ofBits, Ideal.ieee, -EReal.coe_mul, -EReal.coe_neg, allowed]; norm_num

/-- 1024 products, each off by `3 * gap * (2 * π + 3 * gap)`, stay within the distance allowed. -/
theorem total_allowed : 1024 * (3 * gap * (2 * Real.pi + 3 * gap)) ≤ allowed := by
  have := Real.pi_le_four
  norm_num [gap, allowed]
  linarith

/-- The band is wide enough for `angle_far`. -/
theorem band_wide : 6 * gap < band := by norm_num [gap, band]

/-- The kernel's phase is near the reference's times a sign. -/
theorem phases_near {x y z : ℝ} (h : x + eps ≠ 0 ∧ y + eps ≠ 0 ∧ 4 * ((x + eps) * (x + eps)) ≠ (y + eps) * (y + eps) ∧
      (0 ≤ z + eps ∨ 3 * ((z + eps) * (z + eps)) ≠ radius x y * radius x y))
    (hb : z + eps < 0 ∨ band * (radius x y * radius x y + (z + eps) * (z + eps))
      < |radius x y * radius x y - 3 * ((z + eps) * (z + eps))|) (k : Fin 10) :
    |phases poly x y z k - flip k * exact x y z k| ≤ 3 * gap := by
  rw [← phases_arctan h, phases, phases, fold_arctan (radius_pos x y)]
  exact fast_near (radius_pos x y) band_wide hb _ _ k

/-- A sum of real numbers, read among the extended reals. -/
theorem sum_lift (f : Fin 1024 → ℝ) : ((∑ t, f t : ℝ) : EReal) = ∑ t, (f t : EReal) :=
  map_sum (⟨⟨fun r : ℝ => (r : EReal), EReal.coe_zero⟩, EReal.coe_add⟩ : ℝ →+ EReal) f Finset.univ

/-- On the clear arrays every element of the kernel's result satisfies the postcondition. -/
theorem kernel_near (X : (⟨Cert.ReferenceIdeal.S256x3x1024x25, .f32⟩ : BufTy).Contents (Elt Ideal))
    (h : (Pre_clear.fn (F := Ideal) X).1 = (fun _ => 1#1) ∧ (Pre_clear.fn (F := Ideal) X).2.1 = (fun _ => 1#1)
      ∧ (Pre_clear.fn (F := Ideal) X).2.2 = (fun _ => 1#1)) :
    Post_near.fn (F := Ideal) X (Cert.KernelIdeal.Own.result X) = fun _ => 1#1 := by
  rw [Cert.Post_near.Own.near_eq]
  funext i
  obtain ⟨n, k, v, w, rfl⟩ : ∃ (n : Fin 256) (k : Fin 10) (v : Fin 25) (w : Fin 25), i = ix4 n k v w := ⟨i 0, i 1, i 2, i 3, eq_ix4 i⟩
  have side (t : Fin 1024) (u : Fin 25) : ∃ p a : ℝ, |p - flip k * a| ≤ 3 * gap ∧ |a| ≤ Real.pi
      ∧ Cert.KernelIdeal.Own.point k (X (ix4 n 0 t u)) (X (ix4 n 1 t u)) (X (ix4 n 2 t u)) = (p : EReal)
      ∧ val_main_v193 X (ix4 n k t u) = (a : EReal) := by
    obtain ⟨x, hx⟩ := clear_finite X h.1 n 0 t u
    obtain ⟨y, hy⟩ := clear_finite X h.1 n 1 t u
    obtain ⟨z, hz⟩ := clear_finite X h.1 n 2 t u
    refine ⟨_, _, phases_near (clear_at X n t u hx hy hz h.2.1) (clear_band X n t u hx hy hz h.2.2) k, angle_bound _ _, ?_,
      phase_at X n t u hx hy hz k⟩
    rw [hx, hy, hz, Cert.KernelIdeal.Own.point_coe]
  choose p a hn hb hp ha using side
  have e1 : Cert.KernelIdeal.Own.result X (ix4 n k v w) = ((∑ t, p t v * p t w : ℝ) : EReal) := by
    rw [sum_lift]
    refine Finset.sum_congr rfl fun t _ => ?_
    rw [EReal.coe_mul, ← hp, ← hp]
    rfl
  have e2 : val_main_v194 X (ix4 n k v w) = ((∑ t, a t v * a t w : ℝ) : EReal) := by
    rw [reference_entry, sum_lift]
    refine Finset.sum_congr rfl fun t _ => ?_
    rw [EReal.coe_mul, ← ha, ← ha]
  have d : |∑ t, p t v * p t w - ∑ t, a t v * a t w| ≤ allowed := by
    rw [← Finset.sum_sub_distrib]
    refine (Finset.abs_sum_le_sum_abs _ _).trans (le_trans ?_ total_allowed)
    refine (Finset.sum_le_card_nsmul _ _ _ fun t _ =>
      product_near (flip_mul k) (hb t v) (hb t w) (hn t v) (hn t w)).trans (le_of_eq ?_)
    simp
  pointwise
  rw [e1, e2, ← EReal.coe_sub, abs_lift, lit_allowed]
  simp only [EReal.coe_le_coe_iff, d, decide_true]
  rfl

end Cert.Own

end
-- ==== Proof.lean ====
/- The proof of the claims of `Cert.Claim`: the frames come from the generated modules, the results from the array that
   each kernel's launch leaves (`KernelArray`, `ArctanArray`), from the reference's run, and from the equations of
   `Equation` and `Distance`. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.Arctan.Frame
public import proofs.«01_k».proof.Proof.Gen.ArctanIdeal.Frame
public import proofs.«01_k».proof.Proof.Gen.ArctanIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Pre_generic
public import proofs.«01_k».proof.Proof.Gen.Pre_clear
public import proofs.«01_k».proof.Proof.Gen.Post_near
public import proofs.«01_k».proof.Proof.Gen.On_signs
public import proofs.«01_k».proof.Proof.Equation
public import proofs.«01_k».proof.Proof.Distance

@[expose] public section

noncomputable section

namespace Cert.Proof

open Idealize.ShloMosaic Idealize.SL.Sem

/-- The reference ends with its last value of the argument, and leaves the argument as it was. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => ∀ c : Dev Cert.ReferenceIdeal.nD,
        r.2.mem ((c.tc : Thread Cert.ReferenceIdeal.nD Cert.ReferenceIdeal.τ).loc Cert.ReferenceIdeal.main_v194)
          = Cert.ReferenceIdeal.Read.val_main_v194 (F := Ideal)
            (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0) :=
  (θ_run Cert.ReferenceIdeal.defs _ _).mono
    (fun _ h c => ⟨(h c).1.trans (Cert.ReferenceIdeal.Read.val_main_v194_eq _), (h c).2⟩)
    (Cert.ReferenceIdeal.Value.run m g)

/-- The reference's frame; its counters stay at zero because it declares none. -/
theorem reference_frame : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

/-- The constants named in the kernel. -/
theorem kernel_constants : Cert.preserves_Kernel_KernelIdeal :=
  ⟨IdealRules.named_const.statement Cert.KernelIdeal.κ "half_pi" .f32 0x3FC90FDB#32 _ rfl,
    IdealRules.named_const.statement Cert.KernelIdeal.κ "pi" .f32 0x40490FDB#32 _ rfl,
    IdealRules.named_const.statement Cert.KernelIdeal.κ "two_pi" .f32 0x40C90FDB#32 _ rfl,
    IdealRules.named_const.statement Cert.KernelIdeal.κ "neg_pi" .f32 0xC0490FDB#32 _ rfl⟩

/-- The constants named in the kernel with the arctangent. -/
theorem arctan_constants : Cert.preserves_Arctan_ArctanIdeal :=
  ⟨IdealRules.named_const.statement Cert.ArctanIdeal.κ "half_pi" .f32 0x3FC90FDB#32 _ rfl,
    IdealRules.named_const.statement Cert.ArctanIdeal.κ "pi" .f32 0x40490FDB#32 _ rfl,
    IdealRules.named_const.statement Cert.ArctanIdeal.κ "two_pi" .f32 0x40C90FDB#32 _ rfl,
    IdealRules.named_const.statement Cert.ArctanIdeal.κ "neg_pi" .f32 0xC0490FDB#32 _ rfl⟩

/-- The kernel as it is, and the reference: the same results in the channels of order zero. -/
theorem kernel_algebraic : Cert.algebraic_KernelIdeal_ReferenceIdeal_on_signs_pre_finite
    (hKernelIdeal := Cert.KernelIdeal.Gen.facts) (hReferenceIdeal := Cert.ReferenceIdeal.Gen.facts)
    (hPre_finite := Cert.Pre_finite.Gen.facts) (hOn_signs := Cert.On_signs.Gen.facts) := by
  intro m g m' g' hpre hargs
  refine ⟨fun c => Cert.ReferenceIdeal.Read.val_main_v194 (F := Ideal)
    (m ((c.tc : Thread Cert.KernelIdeal.nD Cert.KernelIdeal.τ).loc Cert.KernelIdeal.main_arg0)), ?_, ?_⟩
  · refine (θ_run Cert.KernelIdeal.defs _ _).mono (fun r h c => ⟨fun i hi => ?_, (h c).2⟩) (Cert.KernelIdeal.Value.run_blocks m g)
    rw [(h c).1, Cert.KernelIdeal.Own.array m c]
    exact Cert.Own.kernel_result _ (hpre c) i hi
  · refine (θ_run Cert.ReferenceIdeal.defs _ _).mono (fun r h c => ⟨fun i _ => ?_, (h c).2⟩) (reference_run m' g')
    rw [(h c).1, hargs c]

/-- The kernel with the arctangent, and the reference: the same results. -/
theorem arctan_algebraic : Cert.algebraic_ArctanIdeal_ReferenceIdeal_pre_generic
    (hArctanIdeal := Cert.ArctanIdeal.Gen.facts) (hReferenceIdeal := Cert.ReferenceIdeal.Gen.facts)
    (hPre_generic := Cert.Pre_generic.Gen.facts) := by
  intro m g m' g' hpre hargs
  refine ⟨fun c => Cert.ReferenceIdeal.Read.val_main_v194 (F := Ideal)
    (m ((c.tc : Thread Cert.ArctanIdeal.nD Cert.ArctanIdeal.τ).loc Cert.ArctanIdeal.main_arg0)), ?_, ?_⟩
  · refine (θ_run Cert.ArctanIdeal.defs _ _).mono (fun r h c => ⟨?_, (h c).2⟩) (Cert.ArctanIdeal.Value.run_blocks m g)
    rw [(h c).1, Cert.ArctanIdeal.Own.array m c]
    exact Cert.Own.arctan_result _ (hpre c)
  · refine (θ_run Cert.ReferenceIdeal.defs _ _).mono (fun r h c => ⟨?_, (h c).2⟩) (reference_run m' g')
    rw [(h c).1, hargs c]

/-- The kernel as it is: every element of its result is near the reference's. -/
theorem kernel_holds : Cert.holds_KernelIdeal_near_pre_clear (hKernelIdeal := Cert.KernelIdeal.Gen.facts)
    (hPre_clear := Cert.Pre_clear.Gen.facts) (hPost_near := Cert.Post_near.Gen.facts) := by
  intro m g hpre
  refine (θ_run Cert.KernelIdeal.defs _ _).mono (fun r h c => ⟨(h c).2, ?_⟩) (Cert.KernelIdeal.Value.run_blocks m g)
  rw [(h c).1, Cert.KernelIdeal.Own.array m c]
  exact Cert.Own.kernel_near _ (hpre c)

/-- All the claims. -/
theorem claim : Cert.Claim :=
  ⟨Cert.Kernel.Gen.facts, Cert.KernelIdeal.Gen.facts, Cert.ReferenceIdeal.Gen.facts, Cert.Arctan.Gen.facts,
    Cert.ArctanIdeal.Gen.facts, Cert.Pre_finite.Gen.facts, Cert.Pre_clear.Gen.facts,
    Cert.Pre_generic.Gen.facts, Cert.Post_near.Gen.facts, Cert.On_signs.Gen.facts,
    fun m g _ => Cert.Kernel.Gen.frame m g,
    fun m g _ => Cert.KernelIdeal.Gen.frame m g,
    fun m g _ => Cert.KernelIdeal.Gen.frame m g,
    fun m g _ => Cert.KernelIdeal.Gen.frame m g,
    reference_frame,
    fun m g _ => reference_frame m g trivial,
    fun m g _ => reference_frame m g trivial,
    fun m g _ => Cert.Arctan.Gen.frame m g,
    fun m g _ => Cert.ArctanIdeal.Gen.frame m g,
    fun m g _ => Cert.ArctanIdeal.Gen.frame m g,
    kernel_constants, kernel_algebraic, kernel_holds, arctan_constants, arctan_algebraic⟩

end Cert.Proof

end
